-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 64]⟩ ⟨2, ![2048, 2048]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 2048]⟩ ⟨2, ![2048, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x64 : Shape := ⟨2, ![2048, 64]⟩
abbrev S2048x2048 : Shape := ⟨2, ![2048, 2048]⟩
abbrev S64x2048 : Shape := ⟨2, ![64, 2048]⟩
abbrev S1024x128 : Shape := ⟨2, ![1024, 128]⟩
abbrev S32x32x128 : Shape := ⟨3, ![32, 32, 128]⟩
abbrev S32 : Shape := ⟨1, ![32]⟩
abbrev S32x2x32x64 : Shape := ⟨4, ![32, 2, 32, 64]⟩
abbrev S32x32x2x64 : Shape := ⟨4, ![32, 32, 2, 64]⟩
abbrev S_ : Shape := ⟨0, ![]⟩
abbrev S1 : Shape := ⟨1, ![1]⟩
abbrev S32x128 : Shape := ⟨2, ![32, 128]⟩
abbrev S1x32x128 : Shape := ⟨3, ![1, 32, 128]⟩
abbrev S8x32x128 : Shape := ⟨3, ![8, 32, 128]⟩
abbrev S8x32x64 : Shape := ⟨3, ![8, 32, 64]⟩
abbrev S32x8x64 : Shape := ⟨3, ![32, 8, 64]⟩
abbrev S32x512 : Shape := ⟨2, ![32, 512]⟩
abbrev S64x512 : Shape := ⟨2, ![64, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x64, .f32⟩
  | .hbm, ⟨1, _⟩ => ⟨S2048x2048, .f32⟩
  | .hbm, ⟨2, _⟩ => ⟨S64x2048, .f32⟩
  | .local _ .vmem, ⟨0, _⟩ => ⟨S2048x64, .f32⟩
  | .local _ .vmem, ⟨1, _⟩ => ⟨S2048x2048, .f32⟩
  | .local _ .vmem, ⟨2, _⟩ => ⟨S64x2048, .f32⟩
  | .local _ .vmem, ⟨3, _⟩ => ⟨S1024x128, .f32⟩
  | .local _ .vmem, ⟨4, _⟩ => ⟨S32x32x128, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 33 67 bufScoped semScoped dmaSemScoped tileCredit tileCredit_eq_zero tileCredit_pos).withBarriers [(0, 32)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 32

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4 : BitVec 32 := 1#32
  let v12 : BitVec 32 := Scalar.muli v2 c1_i32_4
  let v13 : BitVec 32 := Scalar.addi c0_i32 v12
  v13.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_6 : BitVec 32 := 0#32
  let v14 : BitVec 1 := Scalar.cmpi .ne v2 c0_i32_6
  let v15 : BitVec 32 := Scalar.extui v14
  let c0_i32_7 : BitVec 32 := 0#32
  let v16 : BitVec 1 := Scalar.cmpi .ne v15 c0_i32_7
  v16

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev2 : Nat :=
  let c0_i32_731 : BitVec 32 := 0#32
  let c0_i32_729 : BitVec 32 := 0#32
  let c1_i32_730 : BitVec 32 := 1#32
  let v954 : BitVec 32 := Scalar.muli c0_i32_729 c1_i32_730
  let v955 : BitVec 32 := Scalar.addi c0_i32_731 v954
  v955.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_8 : BitVec 32 := 1#32
  let v17 : BitVec 1 := Scalar.cmpi .ne v2 c1_i32_8
  let v18 : BitVec 32 := Scalar.extui v17
  let c0_i32_9 : BitVec 32 := 0#32
  let v19 : BitVec 1 := Scalar.cmpi .ne v18 c0_i32_9
  v19

def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev3 : Nat :=
  let c0_i32_731 : BitVec 32 := 0#32
  let c1_i32_729 : BitVec 32 := 1#32
  let c1_i32_730 : BitVec 32 := 1#32
  let v954 : BitVec 32 := Scalar.muli c1_i32_729 c1_i32_730
  let v955 : BitVec 32 := Scalar.addi c0_i32_731 v954
  v955.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v20 : BitVec 1 := Scalar.cmpi .ne v2 c2_i32
  let v21 : BitVec 32 := Scalar.extui v20
  let c0_i32_10 : BitVec 32 := 0#32
  let v22 : BitVec 1 := Scalar.cmpi .ne v21 c0_i32_10
  v22

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev4 : Nat :=
  let c0_i32_731 : BitVec 32 := 0#32
  let c2_i32_729 : BitVec 32 := 2#32
  let c1_i32_730 : BitVec 32 := 1#32
  let v954 : BitVec 32 := Scalar.muli c2_i32_729 c1_i32_730
  let v955 : BitVec 32 := Scalar.addi c0_i32_731 v954
  v955.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v23 : BitVec 1 := Scalar.cmpi .ne v2 c3_i32
  let v24 : BitVec 32 := Scalar.extui v23
  let c0_i32_11 : BitVec 32 := 0#32
  let v25 : BitVec 1 := Scalar.cmpi .ne v24 c0_i32_11
  v25

def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev5 : Nat :=
  let c0_i32_731 : BitVec 32 := 0#32
  let c3_i32_729 : BitVec 32 := 3#32
  let c1_i32_730 : BitVec 32 := 1#32
  let v954 : BitVec 32 := Scalar.muli c3_i32_729 c1_i32_730
  let v955 : BitVec 32 := Scalar.addi c0_i32_731 v954
  v955.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v26 : BitVec 1 := Scalar.cmpi .ne v2 c4_i32
  let v27 : BitVec 32 := Scalar.extui v26
  let c0_i32_12 : BitVec 32 := 0#32
  let v28 : BitVec 1 := Scalar.cmpi .ne v27 c0_i32_12
  v28

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev6 : Nat :=
  let c0_i32_731 : BitVec 32 := 0#32
  let c4_i32_729 : BitVec 32 := 4#32
  let c1_i32_730 : BitVec 32 := 1#32
  let v954 : BitVec 32 := Scalar.muli c4_i32_729 c1_i32_730
  let v955 : BitVec 32 := Scalar.addi c0_i32_731 v954
  v955.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v29 : BitVec 1 := Scalar.cmpi .ne v2 c5_i32
  let v30 : BitVec 32 := Scalar.extui v29
  let c0_i32_13 : BitVec 32 := 0#32
  let v31 : BitVec 1 := Scalar.cmpi .ne v30 c0_i32_13
  v31

def k0_off6 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev7 : Nat :=
  let c0_i32_731 : BitVec 32 := 0#32
  let c5_i32_729 : BitVec 32 := 5#32
  let c1_i32_730 : BitVec 32 := 1#32
  let v954 : BitVec 32 := Scalar.muli c5_i32_729 c1_i32_730
  let v955 : BitVec 32 := Scalar.addi c0_i32_731 v954
  v955.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v32 : BitVec 1 := Scalar.cmpi .ne v2 c6_i32
  let v33 : BitVec 32 := Scalar.extui v32
  let c0_i32_14 : BitVec 32 := 0#32
  let v34 : BitVec 1 := Scalar.cmpi .ne v33 c0_i32_14
  v34

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev8 : Nat :=
  let c0_i32_731 : BitVec 32 := 0#32
  let c6_i32_729 : BitVec 32 := 6#32
  let c1_i32_730 : BitVec 32 := 1#32
  let v954 : BitVec 32 := Scalar.muli c6_i32_729 c1_i32_730
  let v955 : BitVec 32 := Scalar.addi c0_i32_731 v954
  v955.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v35 : BitVec 1 := Scalar.cmpi .ne v2 c7_i32
  let v36 : BitVec 32 := Scalar.extui v35
  let c0_i32_15 : BitVec 32 := 0#32
  let v37 : BitVec 1 := Scalar.cmpi .ne v36 c0_i32_15
  v37

def k0_off8 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev9 : Nat :=
  let c0_i32_731 : BitVec 32 := 0#32
  let c7_i32_729 : BitVec 32 := 7#32
  let c1_i32_730 : BitVec 32 := 1#32
  let v954 : BitVec 32 := Scalar.muli c7_i32_729 c1_i32_730
  let v955 : BitVec 32 := Scalar.addi c0_i32_731 v954
  v955.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v38 : BitVec 1 := Scalar.cmpi .ne v2 c8_i32
  let v39 : BitVec 32 := Scalar.extui v38
  let c0_i32_16 : BitVec 32 := 0#32
  let v40 : BitVec 1 := Scalar.cmpi .ne v39 c0_i32_16
  v40

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev10 : Nat :=
  let c0_i32_731 : BitVec 32 := 0#32
  let c8_i32_729 : BitVec 32 := 8#32
  let c1_i32_730 : BitVec 32 := 1#32
  let v954 : BitVec 32 := Scalar.muli c8_i32_729 c1_i32_730
  let v955 : BitVec 32 := Scalar.addi c0_i32_731 v954
  v955.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v41 : BitVec 1 := Scalar.cmpi .ne v2 c9_i32
  let v42 : BitVec 32 := Scalar.extui v41
  let c0_i32_17 : BitVec 32 := 0#32
  let v43 : BitVec 1 := Scalar.cmpi .ne v42 c0_i32_17
  v43

def k0_off10 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev11 : Nat :=
  let c0_i32_731 : BitVec 32 := 0#32
  let c9_i32_729 : BitVec 32 := 9#32
  let c1_i32_730 : BitVec 32 := 1#32
  let v954 : BitVec 32 := Scalar.muli c9_i32_729 c1_i32_730
  let v955 : BitVec 32 := Scalar.addi c0_i32_731 v954
  v955.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v44 : BitVec 1 := Scalar.cmpi .ne v2 c10_i32
  let v45 : BitVec 32 := Scalar.extui v44
  let c0_i32_18 : BitVec 32 := 0#32
  let v46 : BitVec 1 := Scalar.cmpi .ne v45 c0_i32_18
  v46

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev12 : Nat :=
  let c0_i32_731 : BitVec 32 := 0#32
  let c10_i32_729 : BitVec 32 := 10#32
  let c1_i32_730 : BitVec 32 := 1#32
  let v954 : BitVec 32 := Scalar.muli c10_i32_729 c1_i32_730
  let v955 : BitVec 32 := Scalar.addi c0_i32_731 v954
  v955.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v47 : BitVec 1 := Scalar.cmpi .ne v2 c11_i32
  let v48 : BitVec 32 := Scalar.extui v47
  let c0_i32_19 : BitVec 32 := 0#32
  let v49 : BitVec 1 := Scalar.cmpi .ne v48 c0_i32_19
  v49

def k0_off12 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev13 : Nat :=
  let c0_i32_731 : BitVec 32 := 0#32
  let c11_i32_729 : BitVec 32 := 11#32
  let c1_i32_730 : BitVec 32 := 1#32
  let v954 : BitVec 32 := Scalar.muli c11_i32_729 c1_i32_730
  let v955 : BitVec 32 := Scalar.addi c0_i32_731 v954
  v955.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v50 : BitVec 1 := Scalar.cmpi .ne v2 c12_i32
  let v51 : BitVec 32 := Scalar.extui v50
  let c0_i32_20 : BitVec 32 := 0#32
  let v52 : BitVec 1 := Scalar.cmpi .ne v51 c0_i32_20
  v52

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev14 : Nat :=
  let c0_i32_731 : BitVec 32 := 0#32
  let c12_i32_729 : BitVec 32 := 12#32
  let c1_i32_730 : BitVec 32 := 1#32
  let v954 : BitVec 32 := Scalar.muli c12_i32_729 c1_i32_730
  let v955 : BitVec 32 := Scalar.addi c0_i32_731 v954
  v955.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v53 : BitVec 1 := Scalar.cmpi .ne v2 c13_i32
  let v54 : BitVec 32 := Scalar.extui v53
  let c0_i32_21 : BitVec 32 := 0#32
  let v55 : BitVec 1 := Scalar.cmpi .ne v54 c0_i32_21
  v55

def k0_off14 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev15 : Nat :=
  let c0_i32_731 : BitVec 32 := 0#32
  let c13_i32_729 : BitVec 32 := 13#32
  let c1_i32_730 : BitVec 32 := 1#32
  let v954 : BitVec 32 := Scalar.muli c13_i32_729 c1_i32_730
  let v955 : BitVec 32 := Scalar.addi c0_i32_731 v954
  v955.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 1 := Scalar.cmpi .ne v2 c14_i32
  let v57 : BitVec 32 := Scalar.extui v56
  let c0_i32_22 : BitVec 32 := 0#32
  let v58 : BitVec 1 := Scalar.cmpi .ne v57 c0_i32_22
  v58

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev16 : Nat :=
  let c0_i32_731 : BitVec 32 := 0#32
  let c14_i32_729 : BitVec 32 := 14#32
  let c1_i32_730 : BitVec 32 := 1#32
  let v954 : BitVec 32 := Scalar.muli c14_i32_729 c1_i32_730
  let v955 : BitVec 32 := Scalar.addi c0_i32_731 v954
  v955.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v59 : BitVec 1 := Scalar.cmpi .ne v2 c15_i32
  let v60 : BitVec 32 := Scalar.extui v59
  let c0_i32_23 : BitVec 32 := 0#32
  let v61 : BitVec 1 := Scalar.cmpi .ne v60 c0_i32_23
  v61

def k0_off16 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev17 : Nat :=
  let c0_i32_731 : BitVec 32 := 0#32
  let c15_i32_729 : BitVec 32 := 15#32
  let c1_i32_730 : BitVec 32 := 1#32
  let v954 : BitVec 32 := Scalar.muli c15_i32_729 c1_i32_730
  let v955 : BitVec 32 := Scalar.addi c0_i32_731 v954
  v955.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v62 : BitVec 1 := Scalar.cmpi .ne v2 c16_i32
  let v63 : BitVec 32 := Scalar.extui v62
  let c0_i32_24 : BitVec 32 := 0#32
  let v64 : BitVec 1 := Scalar.cmpi .ne v63 c0_i32_24
  v64

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev18 : Nat :=
  let c0_i32_731 : BitVec 32 := 0#32
  let c16_i32_729 : BitVec 32 := 16#32
  let c1_i32_730 : BitVec 32 := 1#32
  let v954 : BitVec 32 := Scalar.muli c16_i32_729 c1_i32_730
  let v955 : BitVec 32 := Scalar.addi c0_i32_731 v954
  v955.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v65 : BitVec 1 := Scalar.cmpi .ne v2 c17_i32
  let v66 : BitVec 32 := Scalar.extui v65
  let c0_i32_25 : BitVec 32 := 0#32
  let v67 : BitVec 1 := Scalar.cmpi .ne v66 c0_i32_25
  v67

def k0_off18 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev19 : Nat :=
  let c0_i32_731 : BitVec 32 := 0#32
  let c17_i32_729 : BitVec 32 := 17#32
  let c1_i32_730 : BitVec 32 := 1#32
  let v954 : BitVec 32 := Scalar.muli c17_i32_729 c1_i32_730
  let v955 : BitVec 32 := Scalar.addi c0_i32_731 v954
  v955.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v68 : BitVec 1 := Scalar.cmpi .ne v2 c18_i32
  let v69 : BitVec 32 := Scalar.extui v68
  let c0_i32_26 : BitVec 32 := 0#32
  let v70 : BitVec 1 := Scalar.cmpi .ne v69 c0_i32_26
  v70

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev20 : Nat :=
  let c0_i32_731 : BitVec 32 := 0#32
  let c18_i32_729 : BitVec 32 := 18#32
  let c1_i32_730 : BitVec 32 := 1#32
  let v954 : BitVec 32 := Scalar.muli c18_i32_729 c1_i32_730
  let v955 : BitVec 32 := Scalar.addi c0_i32_731 v954
  v955.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v71 : BitVec 1 := Scalar.cmpi .ne v2 c19_i32
  let v72 : BitVec 32 := Scalar.extui v71
  let c0_i32_27 : BitVec 32 := 0#32
  let v73 : BitVec 1 := Scalar.cmpi .ne v72 c0_i32_27
  v73

def k0_off20 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev21 : Nat :=
  let c0_i32_731 : BitVec 32 := 0#32
  let c19_i32_729 : BitVec 32 := 19#32
  let c1_i32_730 : BitVec 32 := 1#32
  let v954 : BitVec 32 := Scalar.muli c19_i32_729 c1_i32_730
  let v955 : BitVec 32 := Scalar.addi c0_i32_731 v954
  v955.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v74 : BitVec 1 := Scalar.cmpi .ne v2 c20_i32
  let v75 : BitVec 32 := Scalar.extui v74
  let c0_i32_28 : BitVec 32 := 0#32
  let v76 : BitVec 1 := Scalar.cmpi .ne v75 c0_i32_28
  v76

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev22 : Nat :=
  let c0_i32_731 : BitVec 32 := 0#32
  let c20_i32_729 : BitVec 32 := 20#32
  let c1_i32_730 : BitVec 32 := 1#32
  let v954 : BitVec 32 := Scalar.muli c20_i32_729 c1_i32_730
  let v955 : BitVec 32 := Scalar.addi c0_i32_731 v954
  v955.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v77 : BitVec 1 := Scalar.cmpi .ne v2 c21_i32
  let v78 : BitVec 32 := Scalar.extui v77
  let c0_i32_29 : BitVec 32 := 0#32
  let v79 : BitVec 1 := Scalar.cmpi .ne v78 c0_i32_29
  v79

def k0_off22 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev23 : Nat :=
  let c0_i32_731 : BitVec 32 := 0#32
  let c21_i32_729 : BitVec 32 := 21#32
  let c1_i32_730 : BitVec 32 := 1#32
  let v954 : BitVec 32 := Scalar.muli c21_i32_729 c1_i32_730
  let v955 : BitVec 32 := Scalar.addi c0_i32_731 v954
  v955.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v80 : BitVec 1 := Scalar.cmpi .ne v2 c22_i32
  let v81 : BitVec 32 := Scalar.extui v80
  let c0_i32_30 : BitVec 32 := 0#32
  let v82 : BitVec 1 := Scalar.cmpi .ne v81 c0_i32_30
  v82

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev24 : Nat :=
  let c0_i32_731 : BitVec 32 := 0#32
  let c22_i32_729 : BitVec 32 := 22#32
  let c1_i32_730 : BitVec 32 := 1#32
  let v954 : BitVec 32 := Scalar.muli c22_i32_729 c1_i32_730
  let v955 : BitVec 32 := Scalar.addi c0_i32_731 v954
  v955.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v83 : BitVec 1 := Scalar.cmpi .ne v2 c23_i32
  let v84 : BitVec 32 := Scalar.extui v83
  let c0_i32_31 : BitVec 32 := 0#32
  let v85 : BitVec 1 := Scalar.cmpi .ne v84 c0_i32_31
  v85

def k0_off24 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev25 : Nat :=
  let c0_i32_731 : BitVec 32 := 0#32
  let c23_i32_729 : BitVec 32 := 23#32
  let c1_i32_730 : BitVec 32 := 1#32
  let v954 : BitVec 32 := Scalar.muli c23_i32_729 c1_i32_730
  let v955 : BitVec 32 := Scalar.addi c0_i32_731 v954
  v955.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v86 : BitVec 1 := Scalar.cmpi .ne v2 c24_i32
  let v87 : BitVec 32 := Scalar.extui v86
  let c0_i32_32 : BitVec 32 := 0#32
  let v88 : BitVec 1 := Scalar.cmpi .ne v87 c0_i32_32
  v88

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev26 : Nat :=
  let c0_i32_731 : BitVec 32 := 0#32
  let c24_i32_729 : BitVec 32 := 24#32
  let c1_i32_730 : BitVec 32 := 1#32
  let v954 : BitVec 32 := Scalar.muli c24_i32_729 c1_i32_730
  let v955 : BitVec 32 := Scalar.addi c0_i32_731 v954
  v955.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v89 : BitVec 1 := Scalar.cmpi .ne v2 c25_i32
  let v90 : BitVec 32 := Scalar.extui v89
  let c0_i32_33 : BitVec 32 := 0#32
  let v91 : BitVec 1 := Scalar.cmpi .ne v90 c0_i32_33
  v91

def k0_off26 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev27 : Nat :=
  let c0_i32_731 : BitVec 32 := 0#32
  let c25_i32_729 : BitVec 32 := 25#32
  let c1_i32_730 : BitVec 32 := 1#32
  let v954 : BitVec 32 := Scalar.muli c25_i32_729 c1_i32_730
  let v955 : BitVec 32 := Scalar.addi c0_i32_731 v954
  v955.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v92 : BitVec 1 := Scalar.cmpi .ne v2 c26_i32
  let v93 : BitVec 32 := Scalar.extui v92
  let c0_i32_34 : BitVec 32 := 0#32
  let v94 : BitVec 1 := Scalar.cmpi .ne v93 c0_i32_34
  v94

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev28 : Nat :=
  let c0_i32_731 : BitVec 32 := 0#32
  let c26_i32_729 : BitVec 32 := 26#32
  let c1_i32_730 : BitVec 32 := 1#32
  let v954 : BitVec 32 := Scalar.muli c26_i32_729 c1_i32_730
  let v955 : BitVec 32 := Scalar.addi c0_i32_731 v954
  v955.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v95 : BitVec 1 := Scalar.cmpi .ne v2 c27_i32
  let v96 : BitVec 32 := Scalar.extui v95
  let c0_i32_35 : BitVec 32 := 0#32
  let v97 : BitVec 1 := Scalar.cmpi .ne v96 c0_i32_35
  v97

def k0_off28 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev29 : Nat :=
  let c0_i32_731 : BitVec 32 := 0#32
  let c27_i32_729 : BitVec 32 := 27#32
  let c1_i32_730 : BitVec 32 := 1#32
  let v954 : BitVec 32 := Scalar.muli c27_i32_729 c1_i32_730
  let v955 : BitVec 32 := Scalar.addi c0_i32_731 v954
  v955.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v98 : BitVec 1 := Scalar.cmpi .ne v2 c28_i32
  let v99 : BitVec 32 := Scalar.extui v98
  let c0_i32_36 : BitVec 32 := 0#32
  let v100 : BitVec 1 := Scalar.cmpi .ne v99 c0_i32_36
  v100

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev30 : Nat :=
  let c0_i32_731 : BitVec 32 := 0#32
  let c28_i32_729 : BitVec 32 := 28#32
  let c1_i32_730 : BitVec 32 := 1#32
  let v954 : BitVec 32 := Scalar.muli c28_i32_729 c1_i32_730
  let v955 : BitVec 32 := Scalar.addi c0_i32_731 v954
  v955.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v101 : BitVec 1 := Scalar.cmpi .ne v2 c29_i32
  let v102 : BitVec 32 := Scalar.extui v101
  let c0_i32_37 : BitVec 32 := 0#32
  let v103 : BitVec 1 := Scalar.cmpi .ne v102 c0_i32_37
  v103

def k0_off30 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev31 : Nat :=
  let c0_i32_731 : BitVec 32 := 0#32
  let c29_i32_729 : BitVec 32 := 29#32
  let c1_i32_730 : BitVec 32 := 1#32
  let v954 : BitVec 32 := Scalar.muli c29_i32_729 c1_i32_730
  let v955 : BitVec 32 := Scalar.addi c0_i32_731 v954
  v955.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v104 : BitVec 1 := Scalar.cmpi .ne v2 c30_i32
  let v105 : BitVec 32 := Scalar.extui v104
  let c0_i32_38 : BitVec 32 := 0#32
  let v106 : BitVec 1 := Scalar.cmpi .ne v105 c0_i32_38
  v106

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev32 : Nat :=
  let c0_i32_731 : BitVec 32 := 0#32
  let c30_i32_729 : BitVec 32 := 30#32
  let c1_i32_730 : BitVec 32 := 1#32
  let v954 : BitVec 32 := Scalar.muli c30_i32_729 c1_i32_730
  let v955 : BitVec 32 := Scalar.addi c0_i32_731 v954
  v955.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v107 : BitVec 1 := Scalar.cmpi .ne v2 c31_i32
  let v108 : BitVec 32 := Scalar.extui v107
  let c0_i32_39 : BitVec 32 := 0#32
  let v109 : BitVec 1 := Scalar.cmpi .ne v108 c0_i32_39
  v109

def k0_off32 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev33 : Nat :=
  let c0_i32_731 : BitVec 32 := 0#32
  let c31_i32_729 : BitVec 32 := 31#32
  let c1_i32_730 : BitVec 32 := 1#32
  let v954 : BitVec 32 := Scalar.muli c31_i32_729 c1_i32_730
  let v955 : BitVec 32 := Scalar.addi c0_i32_731 v954
  v955.toNat
def k0_off33 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_40 : BitVec 32 := 32#32
  let v110 : BitVec 32 := Scalar.muli v2 c32_i32_40
  let v111 : Index := Scalar.indexCast v110
  let c0_41 : Index := 0#32
  ![v111.toNat, 0]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v113 : Index := Scalar.indexCast v2
  let c0_42 : Index := 0#32
  let c0_43 : Index := 0#32
  ![v113.toNat, 0, 0]
def k0_off35 (d0 : Dev nD) (c1_i32_44 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v117 : BitVec 32 := Scalar.addi v2 c1_i32_44
  let c32_i32_45 : BitVec 32 := 32#32
  let v118 : BitVec 32 := Scalar.remsi v117 c32_i32_45
  ![v118.toNat]
def k0_off36 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off37 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_52 : BitVec 32 := 0#32
  let c0_i32_53 : BitVec 32 := 0#32
  ![v2.toNat, 0, 0]
def k0_off38 (d0 : Dev nD) (c1_i32_44 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v117 : BitVec 32 := Scalar.addi v2 c1_i32_44
  let c32_i32_45 : BitVec 32 := 32#32
  let v118 : BitVec 32 := Scalar.remsi v117 c32_i32_45
  let c32_i32_48 : BitVec 32 := 32#32
  let v121 : BitVec 32 := Scalar.muli v118 c32_i32_48
  let c0_i32_54 : BitVec 32 := 0#32
  ![v121.toNat, 0]
def k0_dev34 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_44 : BitVec 32 := 1#32
  let v117 : BitVec 32 := Scalar.addi v2 c1_i32_44
  let c32_i32_45 : BitVec 32 := 32#32
  let v118 : BitVec 32 := Scalar.remsi v117 c32_i32_45
  let c1_i32_50 : BitVec 32 := 1#32
  let v122 : BitVec 32 := Scalar.muli v118 c1_i32_50
  let v123 : BitVec 32 := Scalar.addi c0_i32_51 v122
  v123.toNat
def k0_dev35 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_55 : BitVec 32 := 2#32
  let v131 : BitVec 32 := Scalar.addi v2 c2_i32_55
  let c32_i32_56 : BitVec 32 := 32#32
  let v132 : BitVec 32 := Scalar.remsi v131 c32_i32_56
  let c1_i32_61 : BitVec 32 := 1#32
  let v136 : BitVec 32 := Scalar.muli v132 c1_i32_61
  let v137 : BitVec 32 := Scalar.addi c0_i32_62 v136
  v137.toNat
def k0_dev36 (d0 : Dev nD) : Nat :=
  let c0_i32_73 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_66 : BitVec 32 := 3#32
  let v145 : BitVec 32 := Scalar.addi v2 c3_i32_66
  let c32_i32_67 : BitVec 32 := 32#32
  let v146 : BitVec 32 := Scalar.remsi v145 c32_i32_67
  let c1_i32_72 : BitVec 32 := 1#32
  let v150 : BitVec 32 := Scalar.muli v146 c1_i32_72
  let v151 : BitVec 32 := Scalar.addi c0_i32_73 v150
  v151.toNat
def k0_dev37 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_77 : BitVec 32 := 4#32
  let v159 : BitVec 32 := Scalar.addi v2 c4_i32_77
  let c32_i32_78 : BitVec 32 := 32#32
  let v160 : BitVec 32 := Scalar.remsi v159 c32_i32_78
  let c1_i32_83 : BitVec 32 := 1#32
  let v164 : BitVec 32 := Scalar.muli v160 c1_i32_83
  let v165 : BitVec 32 := Scalar.addi c0_i32_84 v164
  v165.toNat
def k0_dev38 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_88 : BitVec 32 := 5#32
  let v173 : BitVec 32 := Scalar.addi v2 c5_i32_88
  let c32_i32_89 : BitVec 32 := 32#32
  let v174 : BitVec 32 := Scalar.remsi v173 c32_i32_89
  let c1_i32_94 : BitVec 32 := 1#32
  let v178 : BitVec 32 := Scalar.muli v174 c1_i32_94
  let v179 : BitVec 32 := Scalar.addi c0_i32_95 v178
  v179.toNat
def k0_dev39 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_99 : BitVec 32 := 6#32
  let v187 : BitVec 32 := Scalar.addi v2 c6_i32_99
  let c32_i32_100 : BitVec 32 := 32#32
  let v188 : BitVec 32 := Scalar.remsi v187 c32_i32_100
  let c1_i32_105 : BitVec 32 := 1#32
  let v192 : BitVec 32 := Scalar.muli v188 c1_i32_105
  let v193 : BitVec 32 := Scalar.addi c0_i32_106 v192
  v193.toNat
def k0_dev40 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_110 : BitVec 32 := 7#32
  let v201 : BitVec 32 := Scalar.addi v2 c7_i32_110
  let c32_i32_111 : BitVec 32 := 32#32
  let v202 : BitVec 32 := Scalar.remsi v201 c32_i32_111
  let c1_i32_116 : BitVec 32 := 1#32
  let v206 : BitVec 32 := Scalar.muli v202 c1_i32_116
  let v207 : BitVec 32 := Scalar.addi c0_i32_117 v206
  v207.toNat
def k0_dev41 (d0 : Dev nD) : Nat :=
  let c0_i32_128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_121 : BitVec 32 := 8#32
  let v215 : BitVec 32 := Scalar.addi v2 c8_i32_121
  let c32_i32_122 : BitVec 32 := 32#32
  let v216 : BitVec 32 := Scalar.remsi v215 c32_i32_122
  let c1_i32_127 : BitVec 32 := 1#32
  let v220 : BitVec 32 := Scalar.muli v216 c1_i32_127
  let v221 : BitVec 32 := Scalar.addi c0_i32_128 v220
  v221.toNat
def k0_dev42 (d0 : Dev nD) : Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_132 : BitVec 32 := 9#32
  let v229 : BitVec 32 := Scalar.addi v2 c9_i32_132
  let c32_i32_133 : BitVec 32 := 32#32
  let v230 : BitVec 32 := Scalar.remsi v229 c32_i32_133
  let c1_i32_138 : BitVec 32 := 1#32
  let v234 : BitVec 32 := Scalar.muli v230 c1_i32_138
  let v235 : BitVec 32 := Scalar.addi c0_i32_139 v234
  v235.toNat
def k0_dev43 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_143 : BitVec 32 := 10#32
  let v243 : BitVec 32 := Scalar.addi v2 c10_i32_143
  let c32_i32_144 : BitVec 32 := 32#32
  let v244 : BitVec 32 := Scalar.remsi v243 c32_i32_144
  let c1_i32_149 : BitVec 32 := 1#32
  let v248 : BitVec 32 := Scalar.muli v244 c1_i32_149
  let v249 : BitVec 32 := Scalar.addi c0_i32_150 v248
  v249.toNat
def k0_dev44 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_154 : BitVec 32 := 11#32
  let v257 : BitVec 32 := Scalar.addi v2 c11_i32_154
  let c32_i32_155 : BitVec 32 := 32#32
  let v258 : BitVec 32 := Scalar.remsi v257 c32_i32_155
  let c1_i32_160 : BitVec 32 := 1#32
  let v262 : BitVec 32 := Scalar.muli v258 c1_i32_160
  let v263 : BitVec 32 := Scalar.addi c0_i32_161 v262
  v263.toNat
def k0_dev45 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_165 : BitVec 32 := 12#32
  let v271 : BitVec 32 := Scalar.addi v2 c12_i32_165
  let c32_i32_166 : BitVec 32 := 32#32
  let v272 : BitVec 32 := Scalar.remsi v271 c32_i32_166
  let c1_i32_171 : BitVec 32 := 1#32
  let v276 : BitVec 32 := Scalar.muli v272 c1_i32_171
  let v277 : BitVec 32 := Scalar.addi c0_i32_172 v276
  v277.toNat
def k0_dev46 (d0 : Dev nD) : Nat :=
  let c0_i32_183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_176 : BitVec 32 := 13#32
  let v285 : BitVec 32 := Scalar.addi v2 c13_i32_176
  let c32_i32_177 : BitVec 32 := 32#32
  let v286 : BitVec 32 := Scalar.remsi v285 c32_i32_177
  let c1_i32_182 : BitVec 32 := 1#32
  let v290 : BitVec 32 := Scalar.muli v286 c1_i32_182
  let v291 : BitVec 32 := Scalar.addi c0_i32_183 v290
  v291.toNat
def k0_dev47 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_187 : BitVec 32 := 14#32
  let v299 : BitVec 32 := Scalar.addi v2 c14_i32_187
  let c32_i32_188 : BitVec 32 := 32#32
  let v300 : BitVec 32 := Scalar.remsi v299 c32_i32_188
  let c1_i32_193 : BitVec 32 := 1#32
  let v304 : BitVec 32 := Scalar.muli v300 c1_i32_193
  let v305 : BitVec 32 := Scalar.addi c0_i32_194 v304
  v305.toNat
def k0_dev48 (d0 : Dev nD) : Nat :=
  let c0_i32_205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_198 : BitVec 32 := 15#32
  let v313 : BitVec 32 := Scalar.addi v2 c15_i32_198
  let c32_i32_199 : BitVec 32 := 32#32
  let v314 : BitVec 32 := Scalar.remsi v313 c32_i32_199
  let c1_i32_204 : BitVec 32 := 1#32
  let v318 : BitVec 32 := Scalar.muli v314 c1_i32_204
  let v319 : BitVec 32 := Scalar.addi c0_i32_205 v318
  v319.toNat
def k0_dev49 (d0 : Dev nD) : Nat :=
  let c0_i32_216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_209 : BitVec 32 := 16#32
  let v327 : BitVec 32 := Scalar.addi v2 c16_i32_209
  let c32_i32_210 : BitVec 32 := 32#32
  let v328 : BitVec 32 := Scalar.remsi v327 c32_i32_210
  let c1_i32_215 : BitVec 32 := 1#32
  let v332 : BitVec 32 := Scalar.muli v328 c1_i32_215
  let v333 : BitVec 32 := Scalar.addi c0_i32_216 v332
  v333.toNat
def k0_dev50 (d0 : Dev nD) : Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_220 : BitVec 32 := 17#32
  let v341 : BitVec 32 := Scalar.addi v2 c17_i32_220
  let c32_i32_221 : BitVec 32 := 32#32
  let v342 : BitVec 32 := Scalar.remsi v341 c32_i32_221
  let c1_i32_226 : BitVec 32 := 1#32
  let v346 : BitVec 32 := Scalar.muli v342 c1_i32_226
  let v347 : BitVec 32 := Scalar.addi c0_i32_227 v346
  v347.toNat
def k0_dev51 (d0 : Dev nD) : Nat :=
  let c0_i32_238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_231 : BitVec 32 := 18#32
  let v355 : BitVec 32 := Scalar.addi v2 c18_i32_231
  let c32_i32_232 : BitVec 32 := 32#32
  let v356 : BitVec 32 := Scalar.remsi v355 c32_i32_232
  let c1_i32_237 : BitVec 32 := 1#32
  let v360 : BitVec 32 := Scalar.muli v356 c1_i32_237
  let v361 : BitVec 32 := Scalar.addi c0_i32_238 v360
  v361.toNat
def k0_dev52 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_242 : BitVec 32 := 19#32
  let v369 : BitVec 32 := Scalar.addi v2 c19_i32_242
  let c32_i32_243 : BitVec 32 := 32#32
  let v370 : BitVec 32 := Scalar.remsi v369 c32_i32_243
  let c1_i32_248 : BitVec 32 := 1#32
  let v374 : BitVec 32 := Scalar.muli v370 c1_i32_248
  let v375 : BitVec 32 := Scalar.addi c0_i32_249 v374
  v375.toNat
def k0_dev53 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_253 : BitVec 32 := 20#32
  let v383 : BitVec 32 := Scalar.addi v2 c20_i32_253
  let c32_i32_254 : BitVec 32 := 32#32
  let v384 : BitVec 32 := Scalar.remsi v383 c32_i32_254
  let c1_i32_259 : BitVec 32 := 1#32
  let v388 : BitVec 32 := Scalar.muli v384 c1_i32_259
  let v389 : BitVec 32 := Scalar.addi c0_i32_260 v388
  v389.toNat
def k0_dev54 (d0 : Dev nD) : Nat :=
  let c0_i32_271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_264 : BitVec 32 := 21#32
  let v397 : BitVec 32 := Scalar.addi v2 c21_i32_264
  let c32_i32_265 : BitVec 32 := 32#32
  let v398 : BitVec 32 := Scalar.remsi v397 c32_i32_265
  let c1_i32_270 : BitVec 32 := 1#32
  let v402 : BitVec 32 := Scalar.muli v398 c1_i32_270
  let v403 : BitVec 32 := Scalar.addi c0_i32_271 v402
  v403.toNat
def k0_dev55 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_275 : BitVec 32 := 22#32
  let v411 : BitVec 32 := Scalar.addi v2 c22_i32_275
  let c32_i32_276 : BitVec 32 := 32#32
  let v412 : BitVec 32 := Scalar.remsi v411 c32_i32_276
  let c1_i32_281 : BitVec 32 := 1#32
  let v416 : BitVec 32 := Scalar.muli v412 c1_i32_281
  let v417 : BitVec 32 := Scalar.addi c0_i32_282 v416
  v417.toNat
def k0_dev56 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_286 : BitVec 32 := 23#32
  let v425 : BitVec 32 := Scalar.addi v2 c23_i32_286
  let c32_i32_287 : BitVec 32 := 32#32
  let v426 : BitVec 32 := Scalar.remsi v425 c32_i32_287
  let c1_i32_292 : BitVec 32 := 1#32
  let v430 : BitVec 32 := Scalar.muli v426 c1_i32_292
  let v431 : BitVec 32 := Scalar.addi c0_i32_293 v430
  v431.toNat
def k0_dev57 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_297 : BitVec 32 := 24#32
  let v439 : BitVec 32 := Scalar.addi v2 c24_i32_297
  let c32_i32_298 : BitVec 32 := 32#32
  let v440 : BitVec 32 := Scalar.remsi v439 c32_i32_298
  let c1_i32_303 : BitVec 32 := 1#32
  let v444 : BitVec 32 := Scalar.muli v440 c1_i32_303
  let v445 : BitVec 32 := Scalar.addi c0_i32_304 v444
  v445.toNat
def k0_dev58 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_308 : BitVec 32 := 25#32
  let v453 : BitVec 32 := Scalar.addi v2 c25_i32_308
  let c32_i32_309 : BitVec 32 := 32#32
  let v454 : BitVec 32 := Scalar.remsi v453 c32_i32_309
  let c1_i32_314 : BitVec 32 := 1#32
  let v458 : BitVec 32 := Scalar.muli v454 c1_i32_314
  let v459 : BitVec 32 := Scalar.addi c0_i32_315 v458
  v459.toNat
def k0_dev59 (d0 : Dev nD) : Nat :=
  let c0_i32_326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_319 : BitVec 32 := 26#32
  let v467 : BitVec 32 := Scalar.addi v2 c26_i32_319
  let c32_i32_320 : BitVec 32 := 32#32
  let v468 : BitVec 32 := Scalar.remsi v467 c32_i32_320
  let c1_i32_325 : BitVec 32 := 1#32
  let v472 : BitVec 32 := Scalar.muli v468 c1_i32_325
  let v473 : BitVec 32 := Scalar.addi c0_i32_326 v472
  v473.toNat
def k0_dev60 (d0 : Dev nD) : Nat :=
  let c0_i32_337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_330 : BitVec 32 := 27#32
  let v481 : BitVec 32 := Scalar.addi v2 c27_i32_330
  let c32_i32_331 : BitVec 32 := 32#32
  let v482 : BitVec 32 := Scalar.remsi v481 c32_i32_331
  let c1_i32_336 : BitVec 32 := 1#32
  let v486 : BitVec 32 := Scalar.muli v482 c1_i32_336
  let v487 : BitVec 32 := Scalar.addi c0_i32_337 v486
  v487.toNat
def k0_dev61 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_341 : BitVec 32 := 28#32
  let v495 : BitVec 32 := Scalar.addi v2 c28_i32_341
  let c32_i32_342 : BitVec 32 := 32#32
  let v496 : BitVec 32 := Scalar.remsi v495 c32_i32_342
  let c1_i32_347 : BitVec 32 := 1#32
  let v500 : BitVec 32 := Scalar.muli v496 c1_i32_347
  let v501 : BitVec 32 := Scalar.addi c0_i32_348 v500
  v501.toNat
def k0_dev62 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_352 : BitVec 32 := 29#32
  let v509 : BitVec 32 := Scalar.addi v2 c29_i32_352
  let c32_i32_353 : BitVec 32 := 32#32
  let v510 : BitVec 32 := Scalar.remsi v509 c32_i32_353
  let c1_i32_358 : BitVec 32 := 1#32
  let v514 : BitVec 32 := Scalar.muli v510 c1_i32_358
  let v515 : BitVec 32 := Scalar.addi c0_i32_359 v514
  v515.toNat
def k0_dev63 (d0 : Dev nD) : Nat :=
  let c0_i32_370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_363 : BitVec 32 := 30#32
  let v523 : BitVec 32 := Scalar.addi v2 c30_i32_363
  let c32_i32_364 : BitVec 32 := 32#32
  let v524 : BitVec 32 := Scalar.remsi v523 c32_i32_364
  let c1_i32_369 : BitVec 32 := 1#32
  let v528 : BitVec 32 := Scalar.muli v524 c1_i32_369
  let v529 : BitVec 32 := Scalar.addi c0_i32_370 v528
  v529.toNat
def k0_dev64 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_374 : BitVec 32 := 31#32
  let v537 : BitVec 32 := Scalar.addi v2 c31_i32_374
  let c32_i32_375 : BitVec 32 := 32#32
  let v538 : BitVec 32 := Scalar.remsi v537 c32_i32_375
  let c1_i32_380 : BitVec 32 := 1#32
  let v542 : BitVec 32 := Scalar.muli v538 c1_i32_380
  let v543 : BitVec 32 := Scalar.addi c0_i32_381 v542
  v543.toNat
abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Cells.lean ====
/-
# The cells of the protocol, and what the two scratch buffers hold

Every device has one barrier semaphore, thirty-two send semaphores, thirty-two receive semaphores and thirty-two
ready semaphores. This module names them, names the elements of the two scratch buffers that one message covers, and
says what those buffers hold while the kernel runs: the rearranged block of the argument, and the blocks received.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit
public import Idealize.ShloMosaic.Lib.ValueLayout
public import Idealize.ShloMosaic.Lib.Pointwise
public import Idealize.ShloMosaic.Lib.Tactic

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The protocol's own resources: rounds over the mesh's semaphores, with one duty name. -/
abbrev UB : Type := URounds (GSem nD τ sig) Unit
/-- They stand beside the pipeline library's. -/
abbrev UU : Type := UR sig nD τ × UB

local notation "𝕄" => MT nD τ sig Unit (Elt F) ℕ UU ℕ

/-- Where the pipeline library's resources sit. -/
abbrev EP : Emb (UR sig nD τ) (MT nD τ sig Unit (Elt F) ℕ UU ℕ) := embL
/-- Where the protocol's resources sit. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The semaphores -/

/-- The barrier semaphore. -/
abbrev barS : Sem sig := (SemArray.scalar (sig.barrier 0 rfl) : Sems sig S_).sem
/-- The semaphore on which device `k` tells this device that its slot is free. -/
abbrev readyS (k : Fin 32) : Sem sig := ⟨k.val, Nat.lt_of_lt_of_le k.isLt (by decide)⟩
/-- The semaphore on which the message to the device `k` places ahead has left. -/
abbrev sendS (k : Fin 32) : DmaSem sig := ⟨3 + k.val, Nat.lt_of_lt_of_le (Nat.add_lt_add_left k.isLt 3) (by decide)⟩
/-- The semaphore on which the message from device `k` has arrived. -/
abbrev recvS (k : Fin 32) : DmaSem sig := ⟨35 + k.val, Nat.lt_of_lt_of_le (Nat.add_lt_add_left k.isLt 35) (by decide)⟩

/-- A device's barrier cell. -/
abbrev barCell (c : Dev nD) : GSem nD τ sig := ((c : Thread nD τ), .reg barS)
/-- A device's ready cell for device `k`. -/
abbrev readyCell (c : Dev nD) (k : Fin 32) : GSem nD τ sig := ((c : Thread nD τ), .reg (readyS k))
/-- A device's send cell for the message `k` places ahead. -/
abbrev sendCell (c : Dev nD) (k : Fin 32) : GSem nD τ sig := ((c : Thread nD τ), .dma (sendS k))
/-- A device's receive cell for the message of device `k`. -/
abbrev recvCell (c : Dev nD) (k : Fin 32) : GSem nD τ sig := ((c : Thread nD τ), .dma (recvS k))

/-- The names of a device's cells: the barrier, and three families of thirty-two. -/
abbrev CK : Type := Option (Fin 3 × Fin 32)
/-- The semaphore a name stands for. -/
def csem : CK → SemLoc sig
  | none => .reg barS
  | some (0, k) => .reg (readyS k)
  | some (1, k) => .dma (sendS k)
  | some (2, k) => .dma (recvS k)
/-- The cell a device and a name stand for. -/
def kcell (ck : Dev nD × CK) : GSem nD τ sig := ((ck.1 : Thread nD τ), csem ck.2)

theorem bar_val : (barS : Sem sig).val = 32 := by decide

/-- Different names stand for different semaphores. -/
theorem csem_injective : Function.Injective csem := by
  intro a b h
  rcases a with _ | ⟨i, k⟩ <;> rcases b with _ | ⟨j, l⟩
  · rfl
  · exfalso
    fin_cases j
    · have h := congrArg Fin.val (SemLoc.reg.inj h); rw [bar_val] at h; exact absurd h (Nat.ne_of_gt l.isLt)
    · cases h
    · cases h
  · exfalso
    fin_cases i
    · have h := congrArg Fin.val (SemLoc.reg.inj h); rw [bar_val] at h; exact absurd h.symm (Nat.ne_of_gt k.isLt)
    · cases h
    · cases h
  · have hk := k.isLt
    have hl := l.isLt
    fin_cases i <;> fin_cases j
    · have h : k.val = l.val := congrArg (fun s : Sem sig => s.val) (SemLoc.reg.inj h)
      rw [Fin.ext h]
    · cases h
    · cases h
    · cases h
    · have h : 3 + k.val = 3 + l.val := congrArg (fun s : DmaSem sig => s.val) (SemLoc.dma.inj h)
      rw [Fin.ext (Nat.add_left_cancel h)]
    · have h : 3 + k.val = 35 + l.val := congrArg (fun s : DmaSem sig => s.val) (SemLoc.dma.inj h)
      exact absurd h (by omega)
    · cases h
    · have h : 35 + k.val = 3 + l.val := congrArg (fun s : DmaSem sig => s.val) (SemLoc.dma.inj h)
      exact absurd h (by omega)
    · have h : 35 + k.val = 35 + l.val := congrArg (fun s : DmaSem sig => s.val) (SemLoc.dma.inj h)
      rw [Fin.ext (Nat.add_left_cancel h)]

/-- Different devices and names stand for different cells. -/
theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

/-! ### The printed semaphores are these -/

theorem ready_at (k : Fin 32) : (cc0_scratch4 : Sems sig S32).ix (ix1 k) = readyS k := by revert k; decide
theorem send_at (k : Fin 32) : (cc0_scratch2 : DmaSems sig S32).ix (ix1 k) = sendS k := by revert k; decide
theorem recv_at (k : Fin 32) : (cc0_scratch3 : DmaSems sig S32).ix (ix1 k) = recvS k := by revert k; decide

/-- One entry of a printed row of semaphores, sliced out and squeezed, is that entry. -/
theorem sem_of_slice {α : Type} (a : SemArray α S32) (o : Fin 1 → Nat) (k : Fin 32) (ho : o = ![k.val])
    (hin : ∀ i, o i + S1.size i ≤ S32.size i) :
    ((a.slice (Rect.unit (s := S32) o S1.size hin)).squeeze S_ squeezes_S1_S_).sem = a.ix (ix1 k) := by
  subst ho
  show a.ix _ = a.ix _
  refine congrArg a.ix (funext fun b => ?_)
  fin_cases b
  refine Fin.ext ?_
  refine (ValueKit.rect_emb_unit_val (s := S32) _ _ hin _ _).trans ?_
  exact Nat.add_eq_left.mpr (Nat.lt_one_iff.mp (Fin.isLt _))

theorem ready_sem (o : Fin 1 → Nat) (k : Fin 32) (ho : o = ![k.val]) (hin : ∀ i, o i + S1.size i ≤ S32.size i) :
    (((cc0_scratch4 : Sems sig S32).slice (Rect.unit (s := S32) o S1.size hin)).squeeze S_ squeezes_S1_S_).sem = readyS k :=
  (sem_of_slice _ o k ho hin).trans (ready_at k)
theorem send_sem (o : Fin 1 → Nat) (k : Fin 32) (ho : o = ![k.val]) (hin : ∀ i, o i + S1.size i ≤ S32.size i) :
    (((cc0_scratch2 : DmaSems sig S32).slice (Rect.unit (s := S32) o S1.size hin)).squeeze S_ squeezes_S1_S_).sem = sendS k :=
  (sem_of_slice _ o k ho hin).trans (send_at k)
theorem recv_sem (o : Fin 1 → Nat) (k : Fin 32) (ho : o = ![k.val]) (hin : ∀ i, o i + S1.size i ≤ S32.size i) :
    (((cc0_scratch3 : DmaSems sig S32).slice (Rect.unit (s := S32) o S1.size hin)).squeeze S_ squeezes_S1_S_).sem = recvS k :=
  (sem_of_slice _ o k ho hin).trans (recv_at k)

/-! ## The pieces of the scratch buffers -/

/-- The thirty-two rows of the rearranged block that go to one device. -/
abbrev srcM (o : Fin 2 → Nat) (hin : ∀ a, o a + S32x128.size a ≤ S1024x128.size a) : Memref sig .tc .vmem S32x128 .f32 :=
  (Memref.whole cc0_scratch0 : Memref sig .tc .vmem S1024x128 .f32).slice (Rect.unit (s := S1024x128) o S32x128.size hin) (fun _ => rfl)
/-- The slot of the receive buffer that one device writes. -/
abbrev slotM (o : Fin 3 → Nat) (hin : ∀ a, o a + S1x32x128.size a ≤ S32x32x128.size a) : Memref sig .tc .vmem S32x128 .f32 :=
  ((Memref.whole cc0_scratch1 : Memref sig .tc .vmem S32x32x128 .f32).slice (Rect.unit (s := S32x32x128) o S1x32x128.size hin) (fun _ => rfl)).squeeze
    S32x128 squeezes_S1x32x128_S32x128

/-- The elements of the rearranged block in the rows for device `t`. -/
def rowSet (t : Fin 32) : Finset S1024x128.Idx := Finset.univ.filter fun i => (i 0).val / 32 = t.val
/-- The elements of slot `s` of the receive buffer. -/
def slotSet (s : Fin 32) : Finset S32x32x128.Idx := Finset.univ.filter fun i => (i 0).val = s.val

theorem mem_rows_rect (o : Fin 2 → Nat) (t : Fin 32) (ho : o = ![32 * t.val, 0]) (hin : ∀ a, o a + S32x128.size a ≤ S1024x128.size a)
    (i : S1024x128.Idx) : i ∈ (Rect.unit (s := S1024x128) o S32x128.size hin).set ↔ i ∈ rowSet t := by
  subst ho
  refine Rect.mem_set_unit.trans ?_
  unfold rowSet
  rw [Finset.mem_filter]
  have h1 : (i 1).val < 128 := (i 1).isLt
  have h0 : (i 0).val < 1024 := (i 0).isLt
  constructor
  · intro h
    have h : 32 * t.val ≤ (i 0).val ∧ (i 0).val < 32 * t.val + 32 := h 0
    exact ⟨Finset.mem_univ _, by omega⟩
  · rintro ⟨-, h⟩ a
    fin_cases a
    · show 32 * t.val ≤ (i 0).val ∧ (i 0).val < 32 * t.val + 32; omega
    · show 0 ≤ (i 1).val ∧ (i 1).val < 0 + 128; omega

theorem srcM_set (o : Fin 2 → Nat) (t : Fin 32) (ho : o = ![32 * t.val, 0]) (hin) : (srcM o hin).view.set = rowSet t :=
  (View.set_slice_whole cc0_scratch0 _).trans (Finset.ext fun i => mem_rows_rect o t ho hin i)

theorem mem_slot_rect (o : Fin 3 → Nat) (s : Fin 32) (ho : o = ![s.val, 0, 0]) (hin : ∀ a, o a + S1x32x128.size a ≤ S32x32x128.size a)
    (i : S32x32x128.Idx) : i ∈ (Rect.unit (s := S32x32x128) o S1x32x128.size hin).set ↔ i ∈ slotSet s := by
  subst ho
  refine Rect.mem_set_unit.trans ?_
  unfold slotSet
  rw [Finset.mem_filter]
  have h0 : (i 0).val < 32 := (i 0).isLt
  have h1 : (i 1).val < 32 := (i 1).isLt
  have h2 : (i 2).val < 128 := (i 2).isLt
  constructor
  · intro h
    have h : s.val ≤ (i 0).val ∧ (i 0).val < s.val + 1 := h 0
    exact ⟨Finset.mem_univ _, by omega⟩
  · rintro ⟨-, h⟩ a
    fin_cases a
    · show s.val ≤ (i 0).val ∧ (i 0).val < s.val + 1; omega
    · show 0 ≤ (i 1).val ∧ (i 1).val < 0 + 32; omega
    · show 0 ≤ (i 2).val ∧ (i 2).val < 0 + 128; omega

theorem slotM_set (o : Fin 3 → Nat) (s : Fin 32) (ho : o = ![s.val, 0, 0]) (hin) : (slotM o hin).view.set = slotSet s :=
  (View.set_reshape _ _).trans ((View.set_slice_whole cc0_scratch1 _).trans (Finset.ext fun i => mem_slot_rect o s ho hin i))

/-- The credit of one message. -/
abbrev N : ℕ := (slotM ![0, 0, 0] inb_S32x32x128_S1x32x128_0_0_0).view.dmaCredit
theorem N_pos : 0 < N := View.dmaCredit_pos _ (by decide)

/-! ## What the scratch buffers hold -/

/-- Device `c`'s block of the argument, in its staging buffer. -/
def xstg (c : Dev nD) : (cc0_stg0_0 : Ref sig .tc).ty.Contents (Elt F) :=
  (win0_0.blk (0 : Fin 1)).view.read (Elt F) ((s₀ m ρ).mem ((c : Thread nD τ).loc main_arg0))
/-- Device `c`'s copy of the matrix, in its staging buffer. -/
def wstg (c : Dev nD) : (cc0_stg1_0 : Ref sig .tc).ty.Contents (Elt F) :=
  (win0_1.blk (0 : Fin 1)).view.read (Elt F) ((s₀ m ρ).mem ((c : Thread nD τ).loc main_arg1))

/-- Device `c`'s block rearranged, in which the rows for one device are consecutive. -/
def x2Of (c : Dev nD) : S1024x128.Idx → Elt F .f32 := k0_pay1 (xstg m ρ c)

/-- Where in the rearranged block of its sender row `h` of the message to device `c` lies. -/
def fromIdx (c : Fin 32) (h : Fin 32) (b : Fin 128) : S1024x128.Idx := ix2 (⟨32 * c.val + h.val, by omega⟩ : Fin 1024) b

/-- What device `c`'s receive buffer holds at the end: slot `s` has the message of device `s`. -/
def asmOf (c : Dev nD) : S32x32x128.Idx → Elt F .f32 := fun i => x2Of m ρ (i 0) (fromIdx c (i 1) (i 2))

/-- Elements of the rearranged block, in device `c`'s buffer. -/
def x2Pts (c : Dev nD) (S : Finset S1024x128.Idx) (f : S1024x128.Idx → Elt F .f32) : sProp 𝕄 :=
  ((c : Thread nD τ).loc cc0_scratch0) ↦[S]{fullShare} f
/-- Elements of device `c`'s receive buffer. -/
def asmPts (c : Dev nD) (S : Finset S32x32x128.Idx) (f : S32x32x128.Idx → Elt F .f32) : sProp 𝕄 :=
  ((c : Thread nD τ).loc cc0_scratch1) ↦[S]{fullShare} f

instance x2Pts_storable (c : Dev nD) (S f) : BI.Storable (upEmb : UEmb _ 𝕄) (x2Pts (F := F) c S f) := by unfold x2Pts; infer_instance
instance asmPts_storable (c : Dev nD) (S f) : BI.Storable (upEmb : UEmb _ 𝕄) (asmPts (F := F) c S f) := by unfold asmPts; infer_instance

theorem srcM_pts (c : Dev nD) (o : Fin 2 → Nat) (t : Fin 32) (ho : o = ![32 * t.val, 0]) (hin) (f : S1024x128.Idx → Elt F .f32) :
    ((srcM o hin).view.loc (c : Thread nD τ) ↦[(srcM o hin).view.set]{fullShare} f : sProp 𝕄) = x2Pts c (rowSet t) f := by
  rw [srcM_set o t ho hin]; rfl
theorem slotM_pts (c : Dev nD) (o : Fin 3 → Nat) (s : Fin 32) (ho : o = ![s.val, 0, 0]) (hin) (f : S32x32x128.Idx → Elt F .f32) :
    ((slotM o hin).view.loc (c : Thread nD τ) ↦[(slotM o hin).view.set]{fullShare} f : sProp 𝕄) = asmPts c (slotSet s) f := by
  rw [slotM_set o s ho hin]; rfl

/-- An index of a slot lies in the receive buffer at that slot. -/
theorem slotM_emb (o : Fin 3 → Nat) (s : Fin 32) (ho : o = ![s.val, 0, 0]) (hin) (h : Fin 32) (b : Fin 128) :
    (slotM o hin).view.emb (ix2 h b : S32x128.Idx) = (ix3 s h b : S32x32x128.Idx) := by
  subst ho
  have e : (slotM ![s.val, 0, 0] hin).view.emb (ix2 h b : S32x128.Idx)
      = (Rect.unit (s := S32x32x128) ![s.val, 0, 0] S1x32x128.size hin).emb (ix3 (⟨0, Nat.one_pos⟩ : Fin 1) h b) :=
    congrArg (Rect.unit (s := S32x32x128) ![s.val, 0, 0] S1x32x128.size hin).emb (ValueIdx.reshapeEquiv_ix2_1ab _ h b)
  rw [e]
  funext a
  refine Fin.ext ((ValueKit.rect_emb_unit_val (s := S32x32x128) _ _ hin _ a).trans ?_)
  fin_cases a
  · rfl
  · show 0 + h.val = h.val; omega
  · show 0 + b.val = b.val; omega

theorem srcM_emb (o : Fin 2 → Nat) (t : Fin 32) (ho : o = ![32 * t.val, 0]) (hin) (h : Fin 32) (b : Fin 128) :
    (srcM o hin).view.emb (ix2 h b : S32x128.Idx) = fromIdx t h b := by
  subst ho
  funext a
  refine Fin.ext ((ValueKit.rect_emb_unit_val (s := S1024x128) _ _ hin _ a).trans ?_)
  fin_cases a
  · rfl
  · show 0 + b.val = b.val; omega

/-- An index of the receive buffer in slot `s` is the slot with its row and lane. -/
theorem slot_idx {s : Fin 32} {i : S32x32x128.Idx} (hi : i ∈ slotSet s) : i = ix3 s (i 1) (i 2) := by
  have h := (Finset.mem_filter.mp hi).2
  funext a
  fin_cases a
  · exact Fin.ext h
  · rfl
  · rfl

/-- A message landed: the slot of device `c` in the receive buffer of device `t` holds what it is to hold. -/
theorem landed_at (c t : Dev nD) (o2 : Fin 2 → Nat) (ho2 : o2 = ![32 * t.val, 0]) (hin2) (o3 : Fin 3 → Nat) (ho3 : o3 = ![c.val, 0, 0]) (hin3)
    (fd : S32x32x128.Idx → Elt F .f32) (i : S32x32x128.Idx) (hi : i ∈ slotSet c) :
    (slotM o3 hin3).view.write (Elt F) fd ((srcM o2 hin2).view.read (Elt F) (x2Of m ρ c)) Finset.univ i = asmOf m ρ t i := by
  have hi' : i = (slotM o3 hin3).view.emb (ix2 (i 1) (i 2) : S32x128.Idx) := (slot_idx hi).trans (slotM_emb o3 c ho3 hin3 (i 1) (i 2)).symm
  have h0 : i 0 = c := Fin.ext (Finset.mem_filter.mp hi).2
  refine (congrArg _ hi').trans ((View.write_emb_of_mem _ _ (Finset.mem_univ _)).trans ?_)
  show x2Of m ρ c ((srcM o2 hin2).view.emb (ix2 (i 1) (i 2) : S32x128.Idx)) = x2Of m ρ (i 0) (fromIdx t (i 1) (i 2))
  rw [srcM_emb o2 t ho2 hin2 (i 1) (i 2), h0]

end Cert.Gather

end
-- ==== Proof.Sched.lean ====
/-
# The schedule of the protocol

Each cell in use has one round with one duty. The barrier cell of a device is paid by the device itself; its ready
cell for device `k` is paid by device `k`, who hands over the slot of its receive buffer that this device writes; its
send cells and receive cells are paid by the transfers, which hand back the rows sent and hand over the slot written.
The module states the schedule, what each device owes at each stage, and the order of the levels by which no wait can
be part of a circle.
-/
module

public import proofs.«01_k».proof.Proof.Cells

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule -/

/-- Whether a cell has a duty: a device sends itself nothing. -/
def used (g : GSem nD τ sig) : Bool :=
  match g.2 with
  | .reg s => decide (s.val = 32) || decide (s.val ≠ g.1.1.val)
  | .dma s => (decide (3 < s.val) && decide (s.val < 35)) || (decide (35 ≤ s.val) && decide (s.val ≠ 35 + g.1.1.val))

/-- How much a cell's duty is. -/
def amountOf (g : GSem nD τ sig) : ℕ := match g.2 with | .reg _ => 1 | .dma _ => N

/-- What a cell's duty hands over. -/
def payOf (g : GSem nD τ sig) : sProp 𝕄 :=
  match g.2 with
  | .reg s => if s.val = 32 then iprop(emp) else iprop(∃ f, asmPts (Fin.ofNat 32 s.val) (slotSet g.1.1) f)
  | .dma s =>
    if s.val < 35 then x2Pts g.1.1 (rowSet (g.1.1 + Fin.ofNat 32 (s.val - 3))) (x2Of m ρ g.1.1)
    else asmPts g.1.1 (slotSet (Fin.ofNat 32 (s.val - 35))) (asmOf m ρ g.1.1)

theorem amountOf_pos (g : GSem nD τ sig) : 0 < amountOf g := by
  rcases g with ⟨t, s | s⟩
  · exact Nat.one_pos
  · exact N_pos

instance payOf_storable (g : GSem nD τ sig) : BI.Storable (upEmb : UEmb _ 𝕄) (payOf m ρ g) := by
  rcases g with ⟨t, s | s⟩
  · show BI.Storable upEmb (if s.val = 32 then iprop(emp) else iprop(∃ f, asmPts (Fin.ofNat 32 s.val) (slotSet t.1) f))
    split <;> infer_instance
  · show BI.Storable upEmb (if s.val < 35 then x2Pts t.1 (rowSet (t.1 + Fin.ofNat 32 (s.val - 3))) (x2Of m ρ t.1)
      else asmPts t.1 (slotSet (Fin.ofNat 32 (s.val - 35))) (asmOf m ρ t.1))
    split <;> infer_instance

/-- The schedule. -/
def rd : Rounds.Schedule (GSem nD τ sig) Unit 𝕄 where
  duties g r := if r = 0 ∧ used g = true then {()} else ∅
  unitless _ := False
  amount g _ _ := amountOf g
  payload g _ _ := payOf m ρ g
  amount_pos g _ _ _ := amountOf_pos g

instance rd_payload_storable (g : GSem nD τ sig) (r : ℕ) (d : Unit) : BI.Storable (upEmb : UEmb _ 𝕄) ((rd (F := F) m ρ).payload g r d) :=
  payOf_storable m ρ g

theorem duties_used (g : GSem nD τ sig) (h : used g = true) : (rd (F := F) m ρ).duties g 0 = {()} := if_pos ⟨rfl, h⟩
theorem duties_unused (g : GSem nD τ sig) (h : used g = false) : ∀ r, 0 ≤ r → (rd (F := F) m ρ).duties g r = ∅ :=
  fun r _ => if_neg fun h' => by rw [h] at h'; exact Bool.false_ne_true h'.2
theorem duties_later (g : GSem nD τ sig) : ∀ r, 0 + 1 ≤ r → (rd (F := F) m ρ).duties g r = ∅ :=
  fun r hr => if_neg fun h => by omega
theorem mem_duties (g : GSem nD τ sig) (h : used g = true) : () ∈ (rd (F := F) m ρ).duties g 0 := by
  rw [duties_used m ρ g h]; exact Finset.mem_singleton_self _
theorem expect_used (g : GSem nD τ sig) (h : used g = true) : (rd (F := F) m ρ).expect g 0 = amountOf g := by
  unfold Schedule.expect Schedule.amountOf; rw [duties_used m ρ g h, Finset.sum_singleton]; rfl
theorem rest_used (g : GSem nD τ sig) (h : used g = true) :
    bigSep ((rd (F := F) m ρ).duties g 0 \ ∅) (fun d => (rd (F := F) m ρ).payload g 0 d) = payOf m ρ g := by
  rw [Finset.sdiff_empty, duties_used m ρ g h, bigSep_singleton]; rfl

/-! ### The cells, one by one -/

theorem used_bar (c : Dev nD) : used (barCell c) = true := by
  show (decide ((barS : Sem sig).val = 32) || decide ((barS : Sem sig).val ≠ c.val)) = true
  rw [decide_eq_true bar_val, Bool.true_or]
theorem used_ready {c : Dev nD} {k : Fin 32} (h : k ≠ c) : used (readyCell c k) = true := by
  have : k.val ≠ c.val := fun h' => h (Fin.ext h')
  show (decide (k.val = 32) || decide (k.val ≠ c.val)) = true
  rw [decide_eq_true this, Bool.or_true]
theorem unused_ready (c : Dev nD) : used (readyCell c c) = false := by
  have : c.val ≠ 32 := Nat.ne_of_lt c.isLt
  show (decide (c.val = 32) || decide (c.val ≠ c.val)) = false
  rw [decide_eq_false this, decide_eq_false (fun h => h rfl)]; rfl
theorem used_send (c : Dev nD) {k : Fin 32} (h : 1 ≤ k.val) : used (sendCell c k) = true := by
  have := k.isLt
  show ((decide (3 < 3 + k.val) && decide (3 + k.val < 35)) || _) = true
  rw [decide_eq_true (by omega), decide_eq_true (by omega)]; rfl
theorem unused_send (c : Dev nD) : used (sendCell c 0) = false := by
  show ((decide (3 < 3 + 0) && decide (3 + 0 < 35)) || (decide (35 ≤ 3 + 0) && decide (3 + 0 ≠ 35 + c.val))) = false
  rw [decide_eq_false (by omega), decide_eq_false (p := 35 ≤ 3 + 0) (by omega)]; rfl
theorem used_recv {c : Dev nD} {k : Fin 32} (h : k ≠ c) : used (recvCell c k) = true := by
  have : 35 + k.val ≠ 35 + c.val := fun h' => h (Fin.ext (Nat.add_left_cancel h'))
  show (_ || (decide (35 ≤ 35 + k.val) && decide (35 + k.val ≠ 35 + c.val))) = true
  rw [decide_eq_true this, decide_eq_true (p := 35 ≤ 35 + k.val) (by omega)]; exact Bool.or_true _
theorem unused_recv (c : Dev nD) : used (recvCell c c) = false := by
  show ((decide (3 < 35 + c.val) && decide (35 + c.val < 35)) || (decide (35 ≤ 35 + c.val) && decide (35 + c.val ≠ 35 + c.val))) = false
  rw [decide_eq_false (p := 35 + c.val < 35) (by omega), decide_eq_false (p := 35 + c.val ≠ 35 + c.val) (fun h => h rfl), Bool.and_false, Bool.and_false]; rfl

theorem ofNat_val (k : Fin 32) : Fin.ofNat 32 k.val = k := Fin.ext (Nat.mod_eq_of_lt k.isLt)

theorem pay_bar (c : Dev nD) : payOf (F := F) m ρ (barCell c) = iprop(emp) := by
  show (if (barS : Sem sig).val = 32 then iprop(emp) else iprop(∃ f, asmPts (Fin.ofNat 32 (barS : Sem sig).val) (slotSet c) f) : sProp 𝕄) = _
  rw [if_pos bar_val]
theorem pay_ready (c : Dev nD) (k : Fin 32) : payOf (F := F) m ρ (readyCell c k) = iprop(∃ f, asmPts k (slotSet c) f) := by
  refine (if_neg (Nat.ne_of_lt k.isLt)).trans ?_
  show iprop(∃ f, asmPts (Fin.ofNat 32 k.val) (slotSet c) f) = _
  rw [ofNat_val]
theorem pay_send (c : Dev nD) (k : Fin 32) : payOf (F := F) m ρ (sendCell c k) = x2Pts c (rowSet (c + k)) (x2Of m ρ c) := by
  refine (if_pos (show 3 + k.val < 35 by have := k.isLt; omega)).trans ?_
  show x2Pts c (rowSet (c + Fin.ofNat 32 (3 + k.val - 3))) (x2Of m ρ c) = _
  rw [Nat.add_sub_cancel_left, ofNat_val]
theorem pay_recv (c : Dev nD) (k : Fin 32) : payOf (F := F) m ρ (recvCell c k) = asmPts c (slotSet k) (asmOf m ρ c) := by
  refine (if_neg (show ¬ 35 + k.val < 35 by omega)).trans ?_
  show asmPts c (slotSet (Fin.ofNat 32 (35 + k.val - 35))) (asmOf m ρ c) = _
  rw [Nat.add_sub_cancel_left, ofNat_val]

theorem payload_bar (c : Dev nD) : (rd (F := F) m ρ).payload (barCell c) 0 () = iprop(emp) := pay_bar m ρ c
theorem payload_ready (c : Dev nD) (k : Fin 32) : (rd (F := F) m ρ).payload (readyCell c k) 0 () = iprop(∃ f, asmPts k (slotSet c) f) := pay_ready m ρ c k
theorem payload_send (c : Dev nD) (k : Fin 32) : (rd (F := F) m ρ).payload (sendCell c k) 0 () = x2Pts c (rowSet (c + k)) (x2Of m ρ c) := pay_send m ρ c k
theorem payload_recv (c : Dev nD) (k : Fin 32) : (rd (F := F) m ρ).payload (recvCell c k) 0 () = asmPts c (slotSet k) (asmOf m ρ c) := pay_recv m ρ c k

theorem rest_bar (c : Dev nD) : bigSep ((rd (F := F) m ρ).duties (barCell c) 0 \ ∅) (fun d => (rd (F := F) m ρ).payload (barCell c) 0 d) = iprop(emp) :=
  (rest_used m ρ _ (used_bar c)).trans (pay_bar m ρ c)
theorem rest_ready (c : Dev nD) (k : Fin 32) (h : k ≠ c) :
    bigSep ((rd (F := F) m ρ).duties (readyCell c k) 0 \ ∅) (fun d => (rd (F := F) m ρ).payload (readyCell c k) 0 d) = iprop(∃ f, asmPts k (slotSet c) f) :=
  (rest_used m ρ _ (used_ready h)).trans (pay_ready m ρ c k)
theorem rest_send (c : Dev nD) (k : Fin 32) (h : 1 ≤ k.val) :
    bigSep ((rd (F := F) m ρ).duties (sendCell c k) 0 \ ∅) (fun d => (rd (F := F) m ρ).payload (sendCell c k) 0 d) = x2Pts c (rowSet (c + k)) (x2Of m ρ c) :=
  (rest_used m ρ _ (used_send c h)).trans (pay_send m ρ c k)
theorem rest_recv (c : Dev nD) (k : Fin 32) (h : k ≠ c) :
    bigSep ((rd (F := F) m ρ).duties (recvCell c k) 0 \ ∅) (fun d => (rd (F := F) m ρ).payload (recvCell c k) 0 d) = asmPts c (slotSet k) (asmOf m ρ c) :=
  (rest_used m ρ _ (used_recv h)).trans (pay_recv m ρ c k)

theorem expect_bar (c : Dev nD) : (rd (F := F) m ρ).expect (barCell c) 0 = 1 := expect_used m ρ _ (used_bar c)
theorem expect_ready (c : Dev nD) (k : Fin 32) (h : k ≠ c) : (rd (F := F) m ρ).expect (readyCell c k) 0 = 1 := expect_used m ρ _ (used_ready h)
theorem expect_send (c : Dev nD) (k : Fin 32) (h : 1 ≤ k.val) : (rd (F := F) m ρ).expect (sendCell c k) 0 = N := expect_used m ρ _ (used_send c h)
theorem expect_recv (c : Dev nD) (k : Fin 32) (h : k ≠ c) : (rd (F := F) m ρ).expect (recvCell c k) 0 = N := expect_used m ρ _ (used_recv h)
theorem credit_slot (o : Fin 3 → Nat) (hin) : (slotM o hin).view.dmaCredit = N := rfl
theorem credit_src (o : Fin 2 → Nat) (hin) : (srcM o hin).view.dmaCredit = N := rfl

/-! ## Ranges of devices -/

/-- From `n` on. -/
def ge (n : ℕ) : Finset (Fin 32) := Finset.univ.filter fun k => n ≤ k.val
/-- Below `n`. -/
def lt (n : ℕ) : Finset (Fin 32) := Finset.univ.filter fun k => k.val < n
/-- From one up to `n`. -/
def mid (n : ℕ) : Finset (Fin 32) := Finset.univ.filter fun k => 1 ≤ k.val ∧ k.val < n
/-- From `n` on, without `c`. -/
def geNe (n : ℕ) (c : Fin 32) : Finset (Fin 32) := Finset.univ.filter fun k => n ≤ k.val ∧ k ≠ c
/-- Below `n`, and `c`. -/
def ltEq (n : ℕ) (c : Fin 32) : Finset (Fin 32) := Finset.univ.filter fun k => k.val < n ∨ k = c

theorem mem_ge {n : ℕ} {k : Fin 32} : k ∈ ge n ↔ n ≤ k.val := by unfold ge; rw [Finset.mem_filter]; exact ⟨fun h => h.2, fun h => ⟨Finset.mem_univ _, h⟩⟩
theorem mem_lt {n : ℕ} {k : Fin 32} : k ∈ lt n ↔ k.val < n := by unfold lt; rw [Finset.mem_filter]; exact ⟨fun h => h.2, fun h => ⟨Finset.mem_univ _, h⟩⟩
theorem mem_mid {n : ℕ} {k : Fin 32} : k ∈ mid n ↔ 1 ≤ k.val ∧ k.val < n := by unfold mid; rw [Finset.mem_filter]; exact ⟨fun h => h.2, fun h => ⟨Finset.mem_univ _, h⟩⟩
theorem mem_geNe {n : ℕ} {c k : Fin 32} : k ∈ geNe n c ↔ n ≤ k.val ∧ k ≠ c := by
  unfold geNe; rw [Finset.mem_filter]; exact ⟨fun h => h.2, fun h => ⟨Finset.mem_univ _, h⟩⟩
theorem mem_ltEq {n : ℕ} {c k : Fin 32} : k ∈ ltEq n c ↔ k.val < n ∨ k = c := by
  unfold ltEq; rw [Finset.mem_filter]; exact ⟨fun h => h.2, fun h => ⟨Finset.mem_univ _, h⟩⟩

theorem ge_succ (k : Fin 32) : ge k.val = insert k (ge (k.val + 1)) := by
  ext j; rw [Finset.mem_insert, mem_ge, mem_ge, Fin.ext_iff]; omega
theorem not_mem_ge_succ (k : Fin 32) : k ∉ ge (k.val + 1) := by rw [mem_ge]; omega
theorem lt_succ (k : Fin 32) : lt (k.val + 1) = insert k (lt k.val) := by
  ext j; rw [Finset.mem_insert, mem_lt, mem_lt, Fin.ext_iff]; omega
theorem not_mem_lt (k : Fin 32) : k ∉ lt k.val := by rw [mem_lt]; omega
theorem mid_succ (k : Fin 32) (h : 1 ≤ k.val) : mid (k.val + 1) = insert k (mid k.val) := by
  ext j; rw [Finset.mem_insert, mem_mid, mem_mid, Fin.ext_iff]; omega
theorem not_mem_mid (k : Fin 32) : k ∉ mid k.val := by rw [mem_mid]; omega
theorem geNe_succ (k c : Fin 32) (h : k ≠ c) : geNe k.val c = insert k (geNe (k.val + 1) c) := by
  ext j; rw [Finset.mem_insert, mem_geNe, mem_geNe]
  constructor
  · rintro ⟨h1, h2⟩
    by_cases e : j = k
    · exact Or.inl e
    · exact Or.inr ⟨by have : j.val ≠ k.val := fun e' => e (Fin.ext e'); omega, h2⟩
  · rintro (e | ⟨h1, h2⟩)
    · rw [e]; exact ⟨Nat.le_refl _, h⟩
    · exact ⟨by omega, h2⟩
theorem not_mem_geNe_succ (k c : Fin 32) : k ∉ geNe (k.val + 1) c := by rw [mem_geNe]; omega
theorem geNe_skip (c : Fin 32) : geNe c.val c = geNe (c.val + 1) c := by
  ext j; rw [mem_geNe, mem_geNe]
  constructor
  · rintro ⟨h1, h2⟩
    exact ⟨by have : j.val ≠ c.val := fun e' => h2 (Fin.ext e'); omega, h2⟩
  · rintro ⟨h1, h2⟩; exact ⟨by omega, h2⟩
theorem ltEq_succ (k c : Fin 32) (h : k ≠ c) : ltEq (k.val + 1) c = insert k (ltEq k.val c) := by
  ext j; rw [Finset.mem_insert, mem_ltEq, mem_ltEq]
  constructor
  · rintro (h1 | h2)
    · by_cases e : j = k
      · exact Or.inl e
      · exact Or.inr (Or.inl (by have : j.val ≠ k.val := fun e' => e (Fin.ext e'); omega))
    · exact Or.inr (Or.inr h2)
  · rintro (e | h1 | h2)
    · rw [e]; exact Or.inl (Nat.lt_succ_self _)
    · exact Or.inl (by omega)
    · exact Or.inr h2
theorem not_mem_ltEq (k c : Fin 32) (h : k ≠ c) : k ∉ ltEq k.val c := by
  rw [mem_ltEq]; rintro (h1 | h2)
  · omega
  · exact h h2
theorem ltEq_skip (c : Fin 32) : ltEq (c.val + 1) c = ltEq c.val c := by
  ext j; rw [mem_ltEq, mem_ltEq]
  constructor
  · rintro (h1 | h2)
    · by_cases e : j = c
      · exact Or.inr e
      · exact Or.inl (by have : j.val ≠ c.val := fun e' => e (Fin.ext e'); omega)
    · exact Or.inr h2
  · rintro (h1 | h2)
    · exact Or.inl (by omega)
    · exact Or.inr h2

/-! ## What is owed, and the levels -/

/-- What device `c` owes once it has sent the messages to the devices less than `d` places ahead: the rest of them. -/
def O2 (c : Dev nD) (d : ℕ) : CellTallies nD τ sig Unit := ∑ δ ∈ ge d, tallyAt (recvCell (c + δ) c) () N
/-- What it owes once it has told the devices below `n` that their slots are free: the rest of that, and all messages. -/
def O1 (c : Dev nD) (n : ℕ) : CellTallies nD τ sig Unit := O2 c 1 + ∑ j ∈ geNe n c, tallyAt (readyCell j c) () 1
/-- What it owes at launch. -/
def O₀ (c : Dev nD) : CellTallies nD τ sig Unit := O1 c 0 + tallyAt (barCell c) () 1

/-- Sending a message pays for it. -/
theorem O2_step (c : Dev nD) (δ : Fin 32) : O2 c δ.val = O2 c (δ.val + 1) + tallyAt (recvCell (c + δ) c) () N := by
  unfold O2; rw [ge_succ, Finset.sum_insert (not_mem_ge_succ δ), add_comm]
/-- Telling a device pays for it. -/
theorem O1_step (c : Dev nD) (j : Fin 32) (h : j ≠ c) : O1 c j.val = O1 c (j.val + 1) + tallyAt (readyCell j c) () 1 := by
  unfold O1; rw [geNe_succ j c h, Finset.sum_insert (not_mem_geNe_succ j c), add_comm (tallyAt _ _ _), ← add_assoc]
theorem O1_skip (c : Dev nD) : O1 c c.val = O1 c (c.val + 1) := by unfold O1; rw [geNe_skip]
theorem O1_end (c : Dev nD) : O1 c 32 = O2 c 1 := by
  have : geNe 32 c = ∅ := by ext j; rw [mem_geNe]; have := j.isLt; exact ⟨fun h => by omega, fun h => absurd h (Finset.notMem_empty _)⟩
  unfold O1; rw [this, Finset.sum_empty, add_zero]
theorem O2_end (c : Dev nD) : O2 c 32 = 0 := by
  have : ge 32 = ∅ := by ext j; rw [mem_ge]; have := j.isLt; exact ⟨fun h => by omega, fun h => absurd h (Finset.notMem_empty _)⟩
  unfold O2; rw [this, Finset.sum_empty]

/-- The indices of the levels: a TensorCore's cells have one. -/
def L (g : GSem nD τ sig) : Finset Unit := if g.1.2 = .tc then {()} else ∅
/-- The levels: staging and sending 0, barrier 1, ready 2, receiving 3. -/
def lv (g : GSem nD τ sig) (_ : Unit) : ℕ :=
  match g.2 with
  | .reg s => if s.val = 32 then 1 else 2
  | .dma s => if s.val < 35 then 0 else 3

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by
  show (if (barS : Sem sig).val = 32 then 1 else 2) = 1
  rw [if_pos bar_val]
theorem lv_ready (c : Dev nD) (k : Fin 32) : lv (readyCell c k) () = 2 := if_neg (Nat.ne_of_lt k.isLt)
theorem lv_recv (c : Dev nD) (k : Fin 32) : lv (recvCell c k) () = 3 := if_neg (show ¬ 35 + k.val < 35 by omega)

theorem tally_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

theorem O2_pos {c : Dev nD} {d : ℕ} {g : GSem nD τ sig} {u : Unit} (h : 0 < O2 c d g u) : ∃ δ : Fin 32, g = recvCell (c + δ) c := by
  unfold O2 at h
  rw [Finset.sum_apply, Finsupp.finset_sum_apply] at h
  obtain ⟨δ, -, hδ⟩ := Finset.exists_ne_zero_of_sum_ne_zero (Nat.pos_iff_ne_zero.mp h)
  exact ⟨δ, tally_pos (Nat.pos_of_ne_zero hδ)⟩
theorem O1_pos {c : Dev nD} {n : ℕ} {g : GSem nD τ sig} {u : Unit} (h : 0 < O1 c n g u) :
    (∃ δ : Fin 32, g = recvCell (c + δ) c) ∨ ∃ j : Fin 32, g = readyCell j c := by
  unfold O1 at h
  rw [Pi.add_apply, Finsupp.add_apply, Finset.sum_apply, Finsupp.finset_sum_apply] at h
  rcases Nat.eq_zero_or_pos (O2 c 1 g u) with h0 | h0
  · rw [h0, Nat.zero_add] at h
    obtain ⟨j, -, hj⟩ := Finset.exists_ne_zero_of_sum_ne_zero (Nat.pos_iff_ne_zero.mp h)
    exact Or.inr ⟨j, tally_pos (Nat.pos_of_ne_zero hj)⟩
  · exact Or.inl (O2_pos h0)
theorem O₀_pos {c : Dev nD} {g : GSem nD τ sig} {u : Unit} (h : 0 < O₀ c g u) :
    (∃ δ : Fin 32, g = recvCell (c + δ) c) ∨ (∃ j : Fin 32, g = readyCell j c) ∨ g = barCell c := by
  unfold O₀ at h
  rw [Pi.add_apply, Finsupp.add_apply] at h
  rcases Nat.eq_zero_or_pos (O1 c 0 g u) with h0 | h0
  · rw [h0, Nat.zero_add] at h
    exact Or.inr (Or.inr (tally_pos h))
  · rcases O1_pos h0 with h1 | h1
    · exact Or.inl h1
    · exact Or.inr (Or.inl h1)

/-- While a device waits for a staging transfer it may owe all that it owes at launch. -/
theorem mayWait_stage (c : Dev nD) (q : DmaSem sig) (hq : q.val < 35) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨δ, rfl⟩ | ⟨j, rfl⟩ | rfl <;> exact Finset.mem_singleton_self _)
      (fun p hp => by rw [Finset.mem_singleton.mp hp]; exact Nat.le_of_eq (if_pos hq))
      (fun g u hg => by
        rcases O₀_pos hg with ⟨δ, rfl⟩ | ⟨j, rfl⟩ | rfl
        · rw [lv_recv]; decide
        · rw [lv_ready]; decide
        · rw [lv_bar]; decide)
  · rw [MayWait_zero]; iintro -; iempintro

/-- At its barrier a device owes the ready signals and the messages, which stand above. -/
theorem mayWait_bar (c : Dev nD) : (levAts L lv : sProp 𝕄) ⊢ MayWait (c : Thread nD τ) (.reg barS) () (O1 c 0) :=
  MayOwe.of_cut (L := L) (lev := lv) 1 (fun p hp => by rw [Finset.mem_singleton.mp hp, L_tc]; exact Finset.mem_singleton_self _)
    (fun g u hg => by rcases O1_pos hg with ⟨δ, rfl⟩ | ⟨j, rfl⟩ <;> exact Finset.mem_singleton_self _)
    (fun p hp => by rw [Finset.mem_singleton.mp hp]; exact Nat.le_of_eq (lv_bar c))
    (fun g u hg => by
      rcases O1_pos hg with ⟨δ, rfl⟩ | ⟨j, rfl⟩
      · rw [lv_recv]; decide
      · rw [lv_ready]; decide)

/-- While it waits for a peer's slot it owes messages only, which stand above. -/
theorem mayWait_ready (c : Dev nD) (k : Fin 32) (d : ℕ) : (levAts L lv : sProp 𝕄) ⊢ MayWait (c : Thread nD τ) (.reg (readyS k)) () (O2 c d) :=
  MayOwe.of_cut (L := L) (lev := lv) 2 (fun p hp => by rw [Finset.mem_singleton.mp hp, L_tc]; exact Finset.mem_singleton_self _)
    (fun g u hg => by rcases O2_pos hg with ⟨δ, rfl⟩; exact Finset.mem_singleton_self _)
    (fun p hp => by rw [Finset.mem_singleton.mp hp]; exact Nat.le_of_eq (lv_ready c k))
    (fun g u hg => by rcases O2_pos hg with ⟨δ, rfl⟩; rw [lv_recv]; decide)

end Cert.Gather

end
-- ==== Proof.Steps.lean ====
/-
# The steps of the kernel

The kernel goes through four phases, each a row of like steps: telling the peers that their slots are free, sending the
messages once a peer's slot is free, waiting for the messages, and waiting until the messages sent have left. For each
phase this module states what the device holds before step `n`, and proves the step once, at any device and any `n`.
-/
module

public import proofs.«01_k».proof.Proof.Sched

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- No kernel is called from within this one. -/
abbrev 𝒱₀ : Variants := Variants.none

/-- A program of device `c` runs to `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What every step may use -/

/-- The invariants of all the cells, under the names `K`, and that all the cells have reached round 0. -/
def records (K : Dev nD × CK → ℕ) : sProp 𝕄 :=
  iprop((bigSep Finset.univ fun ck : Dev nD × CK => cellInv ER (rd m ρ) (K ck) (kcell ck))
    ∗ bigSep Finset.univ fun ck : Dev nD × CK => reached ER (kcell ck) 0)

instance records_persistent (K : Dev nD × CK → ℕ) : BI.Persistent (records m ρ K) := by unfold records; infer_instance

/-- The records and the levels. -/
def ctx (K : Dev nD × CK → ℕ) : sProp 𝕄 := iprop(records m ρ K ∗ levAts L lv)

instance ctx_persistent (K : Dev nD × CK → ℕ) : BI.Persistent (ctx m ρ K) := by unfold ctx; infer_instance

variable (K : Dev nD × CK → ℕ)

theorem inv_at (ck : Dev nD × CK) :
    (bigSep Finset.univ fun ck : Dev nD × CK => (cellInv ER (rd m ρ) (K ck) (kcell ck) : sProp 𝕄)) ⊢ cellInv ER (rd m ρ) (K ck) (kcell ck) :=
  bigSep_elim (Finset.mem_univ ck)
theorem reached_at (ck : Dev nD × CK) :
    (bigSep Finset.univ fun ck : Dev nD × CK => (reached ER (kcell ck) 0 : sProp 𝕄)) ⊢ reached ER (kcell ck) 0 :=
  bigSep_elim (Finset.mem_univ ck)
theorem ctx_inv (ck : Dev nD × CK) : ctx m ρ K ⊢ cellInv ER (rd m ρ) (K ck) (kcell ck) := by
  unfold ctx records
  iintro ⟨⟨H, -⟩, -⟩
  iapply (inv_at m ρ K ck); iexact H
theorem ctx_reached (ck : Dev nD × CK) : ctx m ρ K ⊢ (reached ER (kcell ck) 0 : sProp 𝕄) := by
  unfold ctx records
  iintro ⟨⟨-, H⟩, -⟩
  iapply (reached_at (F := F) ck); iexact H
theorem ctx_lev : ctx m ρ K ⊢ (levAts L lv : sProp 𝕄) := by
  unfold ctx; iintro ⟨-, H⟩; iexact H

/-! ## The element sets, step by step -/

/-- How far ahead of device `c` the device is to which the row of `i` goes. -/
def ahead (c : Fin 32) (i : S1024x128.Idx) : Fin 32 := Fin.ofNat 32 ((i 0).val / 32) - c
/-- The rows for the devices at least `d` places ahead. -/
def x2Tail (d : ℕ) (c : Fin 32) : Finset S1024x128.Idx := Finset.univ.filter fun i => d ≤ (ahead c i).val
/-- The rows for the devices less than `d` places ahead. -/
def x2Head (d : ℕ) (c : Fin 32) : Finset S1024x128.Idx := Finset.univ.filter fun i => (ahead c i).val < d
/-- The slots from `n` on, and slot `c`. -/
def asmTail (n : ℕ) (c : Fin 32) : Finset S32x32x128.Idx := Finset.univ.filter fun i => n ≤ (i 0).val ∨ (i 0).val = c.val
/-- The slots below `n`, and slot `c`. -/
def asmHead (n : ℕ) (c : Fin 32) : Finset S32x32x128.Idx := Finset.univ.filter fun i => (i 0).val < n ∨ (i 0).val = c.val

theorem mem_x2Tail {d : ℕ} {c : Fin 32} {i} : i ∈ x2Tail d c ↔ d ≤ (ahead c i).val := by
  unfold x2Tail; rw [Finset.mem_filter]; exact ⟨fun h => h.2, fun h => ⟨Finset.mem_univ _, h⟩⟩
theorem mem_x2Head {d : ℕ} {c : Fin 32} {i} : i ∈ x2Head d c ↔ (ahead c i).val < d := by
  unfold x2Head; rw [Finset.mem_filter]; exact ⟨fun h => h.2, fun h => ⟨Finset.mem_univ _, h⟩⟩
theorem mem_asmTail {n : ℕ} {c : Fin 32} {i} : i ∈ asmTail n c ↔ n ≤ (i 0).val ∨ (i 0).val = c.val := by
  unfold asmTail; rw [Finset.mem_filter]; exact ⟨fun h => h.2, fun h => ⟨Finset.mem_univ _, h⟩⟩
theorem mem_asmHead {n : ℕ} {c : Fin 32} {i} : i ∈ asmHead n c ↔ (i 0).val < n ∨ (i 0).val = c.val := by
  unfold asmHead; rw [Finset.mem_filter]; exact ⟨fun h => h.2, fun h => ⟨Finset.mem_univ _, h⟩⟩
theorem mem_slotSet {s : Fin 32} {i} : i ∈ slotSet s ↔ (i 0).val = s.val := by
  unfold slotSet; rw [Finset.mem_filter]; exact ⟨fun h => h.2, fun h => ⟨Finset.mem_univ _, h⟩⟩
theorem mem_rowSet {c δ : Fin 32} {i} : i ∈ rowSet (c + δ) ↔ (ahead c i).val = δ.val := by
  unfold rowSet
  rw [Finset.mem_filter, ← Fin.ext_iff]
  have h0 : (i 0).val < 1024 := (i 0).isLt
  have e : (Fin.ofNat 32 ((i 0).val / 32)).val = (i 0).val / 32 := Nat.mod_eq_of_lt (by omega)
  unfold ahead
  rw [sub_eq_iff_eq_add, add_comm δ c, Fin.ext_iff, e]
  exact ⟨fun h => h.2, fun h => ⟨Finset.mem_univ _, h⟩⟩

theorem x2Tail_succ (c δ : Fin 32) : x2Tail δ.val c = rowSet (c + δ) ∪ x2Tail (δ.val + 1) c := by
  ext i; rw [Finset.mem_union, mem_x2Tail, mem_x2Tail, mem_rowSet]; omega
theorem x2Tail_disj (c δ : Fin 32) : Disjoint (rowSet (c + δ)) (x2Tail (δ.val + 1) c) := by
  rw [Finset.disjoint_left]; intro i; rw [mem_x2Tail, mem_rowSet]; omega
theorem x2Head_succ (c δ : Fin 32) : x2Head (δ.val + 1) c = rowSet (c + δ) ∪ x2Head δ.val c := by
  ext i; rw [Finset.mem_union, mem_x2Head, mem_x2Head, mem_rowSet]; omega
theorem x2Head_disj (c δ : Fin 32) : Disjoint (rowSet (c + δ)) (x2Head δ.val c) := by
  rw [Finset.disjoint_left]; intro i; rw [mem_x2Head, mem_rowSet]; omega
theorem asmTail_succ (c j : Fin 32) : asmTail j.val c = slotSet j ∪ asmTail (j.val + 1) c := by
  ext i; rw [Finset.mem_union, mem_asmTail, mem_asmTail, mem_slotSet]; omega
theorem asmTail_disj (c j : Fin 32) (h : j ≠ c) : Disjoint (slotSet j) (asmTail (j.val + 1) c) := by
  have : j.val ≠ c.val := fun e => h (Fin.ext e)
  rw [Finset.disjoint_left]; intro i; rw [mem_asmTail, mem_slotSet]; omega
theorem asmTail_skip (c : Fin 32) : asmTail c.val c = asmTail (c.val + 1) c := by
  ext i; rw [mem_asmTail, mem_asmTail]; omega
theorem asmHead_succ (c j : Fin 32) : asmHead (j.val + 1) c = slotSet j ∪ asmHead j.val c := by
  ext i; rw [Finset.mem_union, mem_asmHead, mem_asmHead, mem_slotSet]; omega
theorem asmHead_disj (c j : Fin 32) (h : j ≠ c) : Disjoint (slotSet j) (asmHead j.val c) := by
  have : j.val ≠ c.val := fun e => h (Fin.ext e)
  rw [Finset.disjoint_left]; intro i; rw [mem_asmHead, mem_slotSet]; omega
theorem asmHead_skip (c : Fin 32) : asmHead (c.val + 1) c = asmHead c.val c := by
  ext i; rw [mem_asmHead, mem_asmHead]; omega

theorem x2Pts_union (c : Dev nD) (A B : Finset S1024x128.Idx) (h : Disjoint A B) (f : S1024x128.Idx → Elt F .f32) :
    (x2Pts c (A ∪ B) f : sProp 𝕄) ⊣⊢ iprop(x2Pts c A f ∗ x2Pts c B f) := pointsTo_union h
theorem asmPts_union (c : Dev nD) (A B : Finset S32x32x128.Idx) (h : Disjoint A B) (f : S32x32x128.Idx → Elt F .f32) :
    (asmPts c (A ∪ B) f : sProp 𝕄) ⊣⊢ iprop(asmPts c A f ∗ asmPts c B f) := pointsTo_union h

/-- One member taken out of a conjunction. -/
theorem take_one {I : Type} [DecidableEq I] {s : Finset I} {i : I} (hi : i ∉ s) (Φ : I → sProp 𝕄) :
    bigSep (insert i s) Φ = iprop(Φ i ∗ bigSep s Φ) := BI.bigSep_insert hi

/-! ## First phase: the ready signals -/

/-- Before the signal to device `n`: the tokens of the signals to come, and the slots they hand over. -/
def S1 (c : Dev nD) (n : ℕ) : sProp 𝕄 :=
  iprop((∃ W, owes (c : Thread nD τ) (O1 c n) W) ∗ (bigSep (geNe n c) fun j => dutyTok ER (readyCell j c) 0 ()) ∗ ∃ f, asmPts c (asmTail n c) f)

/-- A program in two parts: the first runs to where the second runs to the end. -/
theorem runs_bind {α β : Type} (c : Dev nD) {p : Prog (TpuEff nD τ sig (Elt F) Λ₀ .tc) α} {k : α → Prog (TpuEff nD τ sig (Elt F) Λ₀ .tc) β}
    {P : sProp 𝕄} {Q : β → sProp 𝕄} (h : P ⊢ runs c p fun a => runs c (k a) Q) : P ⊢ runs c (p >>= k) Q := by
  unfold runs; rw [wp_bind]; exact h
/-- A program that returns at once. -/
theorem runs_pure {α : Type} (c : Dev nD) (a : α) {P : sProp 𝕄} {Q : α → sProp 𝕄} (h : P ⊢ Q a) : P ⊢ runs c (pure a) Q := by
  unfold runs; rw [wp_pure]; iintro H; imodintro; iapply h; iexact H

/-- The signal to device `j`, which the device leaves out if it is `j` itself. -/
theorem step_signal (c : Dev nD) (j : Fin 32) (b : BitVec 1) (hb : b = 1#1 ↔ c ≠ j) (dv : b = 1#1 → Dev nD) (hdv : ∀ h, dv h = j)
    (sm : b = 1#1 → Sem sig) (hsm : ∀ h, sm h = readyS c) {Q : PUnit → sProp 𝕄} {R : sProp 𝕄}
    (h : iprop(ctx m ρ K ∗ S1 c (j.val + 1) ∗ R) ⊢ Q ⟨⟩) :
    iprop(ctx m ρ K ∗ S1 c j.val ∗ R) ⊢ runs c (if h : b = 1#1 then (do semSignalWord (dv h) (sm h) 1#32; pure ⟨⟩) else (do pure ⟨⟩)) Q := by
  by_cases hc : j = c
  · rw [dif_neg (fun h' => hb.mp h' hc.symm)]
    refine runs_pure c _ ?_
    rw [show S1 (F := F) c j.val = S1 c (j.val + 1) from by subst hc; unfold S1; rw [O1_skip, geNe_skip, asmTail_skip]]
    exact h
  have hb1 : b = 1#1 := hb.mpr (fun e => hc e.symm)
  rw [dif_pos hb1, hdv, hsm]
  refine runs_bind c ?_
  unfold semSignalWord S1
  rw [geNe_succ j c hc, take_one (not_mem_geNe_succ j c), asmTail_succ c j]
  iintro ⟨#Hc, ⟨⟨%W, HO⟩, ⟨Ht, Hts⟩, ⟨%f, Ha⟩⟩, HR⟩
  ihave #HI := (ctx_inv m ρ K (j, some (0, c))) $$ Hc
  ihave #Hr := (ctx_reached m ρ K (j, some (0, c))) $$ Hc
  ihave Ha' := (asmPts_union c _ _ (asmTail_disj c j hc) f).1 $$ Ha
  icases Ha' with ⟨Hs, Ha⟩
  iapply (Rounds.wp_signal 𝒱₀ ER (rd m ρ) (c : Thread nD τ) none (dst := (j : Thread nD τ)) (κ := K (j, some (0, c)))
      (d := ()) (mem_duties m ρ (readyCell j c) (used_ready (fun e => hc e.symm))) (by rfl : amountOf (readyCell j c) = _) () (O1 c (j.val + 1)) (O1_step c j hc))
    $$ [HO Ht Hs]
  · isplitr; · iexact HI
    isplitl [HO]; · iexact HO
    isplitl [Ht]; · iexact Ht
    isplitl [Hs]
    · iapply (Entails.of_eq (payload_ready m ρ j c).symm)
      iexists f; iexact Hs
    iexact Hr
  iintro HO
  rw [wp_ret]; imodintro
  iapply (runs_pure c (⟨⟩ : PUnit) h)
  isplitr; · iexact Hc
  isplitr [HR]
  · unfold S1
    isplitl [HO]; · iexists W; iexact HO
    isplitl [Hts]; · iexact Hts
    iexists f; iexact Ha
  iexact HR

/-- The barrier: the device signals its own semaphore once, and waits for that. -/
theorem step_barrier (c d : Dev nD) (hd : d = c) {Q : PUnit → sProp 𝕄} {R : sProp 𝕄}
    (h : iprop(ctx m ρ K ∗ ((∃ W, owes (c : Thread nD τ) (O1 c 0) W) ∗ semVal (barCell c) 0) ∗ R) ⊢ Q ⟨⟩) :
    iprop(ctx m ρ K ∗ ((∃ W, owes (c : Thread nD τ) (O₀ c) W) ∗ atPos ER (barCell c) 0 ∅ 0 ∗ cred (tallyAt (barCell c) () 1) ∗ dutyTok ER (barCell c) 0 ()) ∗ R)
      ⊢ runs c (do semSignalWord d barS 1#32; semWaitWord barS 1#32) Q := by
  subst hd
  refine runs_bind d ?_
  unfold semSignalWord semWaitWord
  iintro ⟨#Hc, ⟨⟨%W, HO⟩, Hat, Hcr, Ht⟩, HR⟩
  ihave #HI := (ctx_inv m ρ K (d, none)) $$ Hc
  ihave #Hr := (ctx_reached m ρ K (d, none)) $$ Hc
  iapply (Rounds.wp_signal 𝒱₀ ER (rd m ρ) (d : Thread nD τ) none (dst := (d : Thread nD τ)) (κ := K (d, none))
      (d := ()) (mem_duties m ρ (barCell d) (used_bar d)) (by rfl : amountOf (barCell d) = _) () (O1 d 0) rfl)
    $$ [HO Ht]
  · isplitr; · iexact HI
    isplitl [HO]; · iexact HO
    isplitl [Ht]; · iexact Ht
    isplitr; · rw [payload_bar]; iempintro
    iexact Hr
  iintro HO
  rw [wp_ret]; imodintro
  iapply (Rounds.wp_wait_rest_token 𝒱₀ ER (rd m ρ) (d : Thread nD τ) none (κ := K (d, none))
      (wpE_semWait_eq 𝒱₀ (d : Thread nD τ) none Set.univ) (Set.mem_univ _) () (O := O1 d 0) (W := W) (R := 0) (m := 0) (T := ∅)
      (by rw [expect_bar]; decide)) $$ [Hcr HO Hat]
  · isplitr; · iexact HI
    isplitl [Hcr]; · iexact Hcr
    isplitl [HO]; · iexact HO
    isplitr; · iapply (BIBase.Entails.trans (@ctx_lev F _ m ρ K) (mayWait_bar d)); iexact Hc
    iexact Hat
  iintro ⟨HO, Hat, -, -⟩
  imod (Rounds.cell_close ER (rd m ρ) (Set.mem_univ (K (d, none))) (fun h => h) (R := 0 + 1) (duties_later m ρ (barCell d))) $$ [Hat] with Hz
  · isplitr; · iexact HI
    iexact Hat
  rw [wp_ret]; imodintro
  iapply h
  isplitr; · iexact Hc
  isplitr [HR]
  · isplitl [HO]; · iexists _; iexact HO
    iexact Hz
  iexact HR

/-! ## Second phase: the messages -/

/-- What one message still to be sent takes: the wait for the peer's slot, and the tokens of the transfer. -/
def msg (c : Dev nD) (δ : Fin 32) : sProp 𝕄 :=
  iprop((atPos ER (readyCell c (c + δ)) 0 ∅ 0 ∗ cred (tallyAt (readyCell c (c + δ)) () 1))
    ∗ dutyTok ER (recvCell (c + δ) c) 0 () ∗ dutyTok ER (sendCell c δ) 0 ())

/-- Before the wait for the device `d` places ahead: the messages to come, the rows they send, and what is done. -/
def S2 (c : Dev nD) (d : ℕ) : sProp 𝕄 :=
  iprop((∃ W, owes (c : Thread nD τ) (O2 c d) W) ∗ (bigSep (ge d) fun δ => msg c δ) ∗ x2Pts c (x2Tail d c) (x2Of m ρ c)
    ∗ (bigSep (lt d) fun δ => semVal (readyCell c (c + δ)) 0) ∗ bigSep (mid d) fun δ => cred (tallyAt (sendCell c δ) () N))
/-- After that wait, and before the transfer: the peer's slot is there too. -/
def S2w (c : Dev nD) (d : Fin 32) : sProp 𝕄 :=
  iprop((∃ W, owes (c : Thread nD τ) (O2 c d.val) W) ∗ ((dutyTok ER (recvCell (c + d) c) 0 () ∗ dutyTok ER (sendCell c d) 0 () ∗ ∃ f, asmPts (c + d) (slotSet c) f)
      ∗ bigSep (ge (d.val + 1)) fun δ => msg c δ) ∗ x2Pts c (x2Tail d.val c) (x2Of m ρ c)
    ∗ (bigSep (lt (d.val + 1)) fun δ => semVal (readyCell c (c + δ)) 0) ∗ bigSep (mid d.val) fun δ => cred (tallyAt (sendCell c δ) () N))

theorem add_ne (c δ : Fin 32) (h : 1 ≤ δ.val) : c + δ ≠ c := fun e => by
  have : δ = 0 := left_eq_add.mp e.symm
  rw [this] at h; exact absurd h (by decide)

/-- The wait for the device `δ` places ahead to say that its slot is free. -/
theorem step_ready (c : Dev nD) (δ : Fin 32) (hδ : 1 ≤ δ.val) (sm : Sem sig) (hsm : sm = readyS (c + δ)) {Q : PUnit → sProp 𝕄} {R : sProp 𝕄}
    (h : iprop(ctx m ρ K ∗ S2w m ρ c δ ∗ R) ⊢ Q ⟨⟩) :
    iprop(ctx m ρ K ∗ S2 m ρ c δ.val ∗ R) ⊢ runs c (semWaitWord sm 1#32) Q := by
  subst hsm
  unfold semWaitWord S2
  rw [ge_succ δ, take_one (not_mem_ge_succ δ)]
  unfold msg
  iintro ⟨#Hc, ⟨⟨%W, HO⟩, ⟨⟨⟨Hat, Hcr⟩, HtR, HtS⟩, Hms⟩, Hx, Hz, Hs⟩, HR⟩
  ihave #HI := (ctx_inv m ρ K (c, some (0, c + δ))) $$ Hc
  iapply (Rounds.wp_wait_rest_token 𝒱₀ ER (rd m ρ) (c : Thread nD τ) none (κ := K (c, some (0, c + δ)))
      (wpE_semWait_eq 𝒱₀ (c : Thread nD τ) none Set.univ) (Set.mem_univ _) () (O := O2 c δ.val) (W := W) (R := 0) (m := 0) (T := ∅)
      (by rw [expect_ready _ _ _ _ (add_ne c δ hδ)]; decide)) $$ [Hcr HO Hat]
  · isplitr; · iexact HI
    isplitl [Hcr]; · iexact Hcr
    isplitl [HO]; · iexact HO
    isplitr; · iapply (BIBase.Entails.trans (@ctx_lev F _ m ρ K) (mayWait_ready c (c + δ) δ.val)); iexact Hc
    iexact Hat
  iintro ⟨HO, Hat, -, Hpay⟩
  ihave Hslot := (Entails.of_eq (rest_ready m ρ c (c + δ) (add_ne c δ hδ))) $$ Hpay
  imod (Rounds.cell_close ER (rd m ρ) (Set.mem_univ (K (c, some (0, c + δ)))) (fun h => h) (R := 0 + 1) (duties_later m ρ (readyCell c (c + δ)))) $$ [Hat] with Hz'
  · isplitr; · iexact HI
    iexact Hat
  rw [wp_ret]; imodintro
  iapply h
  isplitr; · iexact Hc
  isplitr [HR]
  · unfold S2w
    isplitl [HO]; · iexists _; iexact HO
    isplitl [HtR HtS Hslot Hms]
    · isplitl [HtR HtS Hslot]
      · isplitl [HtR]; · iexact HtR
        isplitl [HtS]; · iexact HtS
        iexact Hslot
      iexact Hms
    isplitl [Hx]; · iexact Hx
    isplitl [Hz Hz']
    · rw [lt_succ δ, take_one (not_mem_lt δ)]
      isplitl [Hz']; · iexact Hz'
      iexact Hz
    iexact Hs
  iexact HR

/-- The transfer to the device `δ` places ahead. -/
theorem step_send (c : Dev nD) (δ : Fin 32) (hδ : 1 ≤ δ.val) (t : Dev nD) (ht : t = c + δ)
    (o2 : Fin 2 → Nat) (ho2 : o2 = ![32 * (c + δ).val, 0]) (hin2) (o3 : Fin 3 → Nat) (ho3 : o3 = ![c.val, 0, 0]) (hin3)
    (sS : DmaSem sig) (hsS : sS = sendS δ) (sR : DmaSem sig) (hsR : sR = recvS c)
    {hsc : (slotM o3 hin3 : Memref sig (Dev.tc t : Thread nD τ).2.kind .vmem S32x128 .f32).view.ref.isScScratch = false}
    {hsrc : (srcM o2 hin2).view.WordExact} {hdst : (slotM o3 hin3).view.WordExact}
    {hsem : DmaTarget.Typed .vmem (.dma sR) (.remote (Dev.tc t : Thread nD τ) (slotM o3 hin3) (.dma sS) hsc)}
    {Q : PUnit → sProp 𝕄} {R : sProp 𝕄}
    (h : iprop(ctx m ρ K ∗ S2 m ρ c (δ.val + 1) ∗ R) ⊢ Q ⟨⟩) :
    iprop(ctx m ρ K ∗ S2w m ρ c δ ∗ R)
      ⊢ runs c (Prog.lift (.enqueueDma (srcM o2 hin2) (.remote (Dev.tc t : Thread nD τ) (slotM o3 hin3) (.dma sS) hsc) (.dma sR) hsrc hdst hsem)) Q := by
  subst ht hsS hsR
  unfold Prog.lift S2w
  rw [x2Tail_succ c δ]
  iintro ⟨#Hc, ⟨⟨%W, HO⟩, ⟨⟨HtR, HtS, ⟨%fd, Hd⟩⟩, Hms⟩, Hx, Hz, Hs⟩, HR⟩
  ihave #HIs := (ctx_inv m ρ K (c, some (1, δ))) $$ Hc
  ihave #HIr := (ctx_inv m ρ K (c + δ, some (2, c))) $$ Hc
  ihave #Hrs := (ctx_reached m ρ K (c, some (1, δ))) $$ Hc
  ihave #Hrr := (ctx_reached m ρ K (c + δ, some (2, c))) $$ Hc
  ihave Hx' := (x2Pts_union c _ _ (x2Tail_disj c δ) (x2Of m ρ c)).1 $$ Hx
  icases Hx' with ⟨Hrow, Hx⟩
  iapply (Rounds.wp_send_pointsTo 𝒱₀ ER (rd m ρ) (c : Thread nD τ) none (κ₁ := K (c, some (1, δ))) (κ₂ := K (c + δ, some (2, c)))
    (r₁ := 0) (r₂ := 0) (d₁ := ()) (d₂ := ()) (c' := ((c + δ : Dev nD) : Thread nD τ)) (src := srcM o2 hin2) (dst := slotM o3 hin3) (fs := x2Of m ρ c) (fd := fd)
    (mem_duties m ρ (sendCell c δ) (used_send c hδ)) (mem_duties m ρ (recvCell (c + δ) c) (used_recv (fun e => add_ne c δ hδ e.symm)))
    () () N rfl rfl rfl (O2 c (δ.val + 1)) (O2_step c δ) (W := W)
    (by rw [srcM_pts c o2 (c + δ) ho2 hin2]; exact Entails.of_eq (payload_send m ρ c δ).symm)
    (by
      rw [slotM_pts (c + δ) o3 c ho3 hin3]
      refine BIBase.Entails.trans (Entails.of_eq ?_) (Entails.of_eq (payload_recv m ρ (c + δ) c).symm)
      exact pointsTo_congr fun i hi => landed_at m ρ c (c + δ) o2 ho2 hin2 o3 ho3 hin3 fd i hi)) $$ [Hrow Hd HO HtS HtR]
  · isplitr; · iexact HIs
    isplitr; · iexact HIr
    isplitl [Hrow]; · iapply (Entails.of_eq (srcM_pts c o2 (c + δ) ho2 hin2 (x2Of m ρ c)).symm); iexact Hrow
    isplitl [Hd]; · iapply (Entails.of_eq (slotM_pts (c + δ) o3 c ho3 hin3 fd).symm); iexact Hd
    isplitl [HO]; · iexact HO
    isplitl [HtS]; · iexact HtS
    isplitr; · iexact Hrs
    isplitl [HtR]; · iexact HtR
    iexact Hrr
  iintro ⟨Hcr, HO⟩
  rw [wp_ret]; imodintro
  iapply h
  isplitr; · iexact Hc
  isplitr [HR]
  · unfold S2
    isplitl [HO]; · iexists _; iexact HO
    isplitl [Hms]; · iexact Hms
    isplitl [Hx]; · iexact Hx
    isplitl [Hz]; · iexact Hz
    rw [mid_succ δ hδ, take_one (not_mem_mid δ)]
    isplitl [Hcr]; · iexact Hcr
    iexact Hs
  iexact HR

/-! ## Third phase: the arrivals -/

/-- Before the wait for the message of device `n`: the waits to come, the slots below `n` filled, and what is done. -/
def S3 (c : Dev nD) (n : ℕ) : sProp 𝕄 :=
  iprop((∃ W, owes (c : Thread nD τ) 0 W) ∗ (bigSep (geNe n c) fun s => iprop(atPos ER (recvCell c s) 0 ∅ 0 ∗ cred (tallyAt (recvCell c s) () N)))
    ∗ asmPts c (asmHead n c) (asmOf m ρ c) ∗ bigSep (ltEq n c) fun s => semVal (recvCell c s) 0)

/-- The wait for the message of device `s`, which the device leaves out if it is `s` itself. -/
theorem step_recv (c : Dev nD) (s : Fin 32) (b : BitVec 1) (hb : b = 1#1 ↔ c ≠ s) (sm : DmaSem sig) (hsm : sm = recvS s)
    {o2 : Fin 2 → Nat} {hin2} {o3 : Fin 3 → Nat} {hin3} {hsrc : (srcM o2 hin2).view.WordExact} {hdst : (slotM o3 hin3).view.WordExact}
    {Q : PUnit → sProp 𝕄} {R : sProp 𝕄} (h : iprop(ctx m ρ K ∗ S3 m ρ c (s.val + 1) ∗ R) ⊢ Q ⟨⟩) :
    iprop(ctx m ρ K ∗ S3 m ρ c s.val ∗ R)
      ⊢ runs c (if h : b = 1#1 then (do Prog.lift (.waitDma2 sm (srcM o2 hin2) (slotM o3 hin3) hsrc hdst); pure ⟨⟩) else (do pure ⟨⟩)) Q := by
  by_cases hc : s = c
  · rw [dif_neg (fun h' => hb.mp h' hc.symm)]
    refine runs_pure c _ ?_
    rw [show S3 m ρ c s.val = S3 m ρ c (s.val + 1) from by subst hc; unfold S3; rw [geNe_skip, asmHead_skip, ltEq_skip]]
    exact h
  rw [dif_pos (hb.mpr (fun e => hc e.symm))]
  subst hsm
  refine runs_bind c ?_
  unfold Prog.lift S3
  rw [geNe_succ s c hc, take_one (not_mem_geNe_succ s c)]
  iintro ⟨#Hc, ⟨⟨%W, HO⟩, ⟨⟨Hat, Hcr⟩, Hts⟩, Ha, Hz⟩, HR⟩
  ihave #HI := (ctx_inv m ρ K (c, some (2, s))) $$ Hc
  iapply (Rounds.wp_wait_rest_token 𝒱₀ ER (rd m ρ) (c : Thread nD τ) none (κ := K (c, some (2, s)))
      (wpE_waitDma2_eq 𝒱₀ (c : Thread nD τ) none Set.univ (sem := recvS s) (src := srcM o2 hin2) (dst := slotM o3 hin3) (hsrc := hsrc) (hdst := hdst)) (Set.mem_univ _) () (O := 0) (W := W) (R := 0) (m := 0) (T := ∅)
      ((Nat.zero_add _).trans ((credit_slot o3 hin3).trans (expect_recv m ρ c s hc).symm))) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hslot := (Entails.of_eq (rest_recv m ρ c s hc)) $$ Hpay
  imod (Rounds.cell_close ER (rd m ρ) (Set.mem_univ (K (c, some (2, s)))) (fun h => h) (R := 0 + 1) (duties_later m ρ (recvCell c s))) $$ [Hat] with Hz'
  · isplitr; · iexact HI
    iexact Hat
  rw [wp_ret]; imodintro
  iapply (runs_pure c (⟨⟩ : PUnit) h)
  isplitr; · iexact Hc
  isplitr [HR]
  · unfold S3
    isplitl [HO]; · iexists _; iexact HO
    isplitl [Hts]; · iexact Hts
    isplitl [Ha Hslot]
    · rw [asmHead_succ c s]
      iapply (asmPts_union c _ _ (asmHead_disj c s hc) (asmOf m ρ c)).2
      isplitl [Hslot]; · iexact Hslot
      iexact Ha
    rw [ltEq_succ s c hc, take_one (not_mem_ltEq s c hc)]
    isplitl [Hz']; · iexact Hz'
    iexact Hz
  iexact HR

/-! ## Fourth phase: the departures -/

/-- Before the wait for the message to the device `n` places ahead to have left: the waits to come, the rows that are
    back, and what is done. -/
def S4 (c : Dev nD) (n : ℕ) : sProp 𝕄 :=
  iprop((∃ W, owes (c : Thread nD τ) 0 W) ∗ (bigSep (ge n) fun δ => iprop(atPos ER (sendCell c δ) 0 ∅ 0 ∗ cred (tallyAt (sendCell c δ) () N)))
    ∗ x2Pts c (x2Head n c) (x2Of m ρ c) ∗ bigSep (lt n) fun δ => semVal (sendCell c δ) 0)

/-- The wait for the message to the device `δ` places ahead to have left. -/
theorem step_left (c : Dev nD) (δ : Fin 32) (hδ : 1 ≤ δ.val) (sm : DmaSem sig) (hsm : sm = sendS δ)
    {o2 : Fin 2 → Nat} {hin2} {o3 : Fin 3 → Nat} {hin3} {hsrc : (slotM o3 hin3).view.WordExact} {hdst : (srcM o2 hin2).view.WordExact}
    {Q : PUnit → sProp 𝕄} {R : sProp 𝕄} (h : iprop(ctx m ρ K ∗ S4 m ρ c (δ.val + 1) ∗ R) ⊢ Q ⟨⟩) :
    iprop(ctx m ρ K ∗ S4 m ρ c δ.val ∗ R)
      ⊢ runs c (Prog.lift (.waitDma2 sm (slotM o3 hin3) (srcM o2 hin2) hsrc hdst)) Q := by
  subst hsm
  unfold Prog.lift S4
  rw [ge_succ δ, take_one (not_mem_ge_succ δ)]
  iintro ⟨#Hc, ⟨⟨%W, HO⟩, ⟨⟨Hat, Hcr⟩, Hts⟩, Ha, Hz⟩, HR⟩
  ihave #HI := (ctx_inv m ρ K (c, some (1, δ))) $$ Hc
  iapply (Rounds.wp_wait_rest_token 𝒱₀ ER (rd m ρ) (c : Thread nD τ) none (κ := K (c, some (1, δ)))
      (wpE_waitDma2_eq 𝒱₀ (c : Thread nD τ) none Set.univ (sem := sendS δ) (src := slotM o3 hin3) (dst := srcM o2 hin2) (hsrc := hsrc) (hdst := hdst)) (Set.mem_univ _) () (O := 0) (W := W) (R := 0) (m := 0) (T := ∅)
      ((Nat.zero_add _).trans ((credit_src o2 hin2).trans (expect_send m ρ c δ hδ).symm))) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hrow := (Entails.of_eq (rest_send m ρ c δ hδ)) $$ Hpay
  imod (Rounds.cell_close ER (rd m ρ) (Set.mem_univ (K (c, some (1, δ)))) (fun h => h) (R := 0 + 1) (duties_later m ρ (sendCell c δ))) $$ [Hat] with Hz'
  · isplitr; · iexact HI
    iexact Hat
  rw [wp_ret]; imodintro
  iapply h
  isplitr; · iexact Hc
  isplitr [HR]
  · unfold S4
    isplitl [HO]; · iexists _; iexact HO
    isplitl [Hts]; · iexact Hts
    isplitl [Ha Hrow]
    · rw [x2Head_succ c δ]
      iapply (x2Pts_union c _ _ (x2Head_disj c δ) (x2Of m ρ c)).2
      isplitl [Hrow]; · iexact Hrow
      iexact Ha
    rw [lt_succ δ, take_one (not_mem_lt δ)]
    isplitl [Hz']; · iexact Hz'
    iexact Hz
  iexact HR

end Cert.Gather

end
-- ==== Proof.Access.lean ====
/-
# The kernel's reads and writes of its own memory

One lemma for each read and each write that the kernel makes of its staging buffers and of its two scratch buffers, each
stated for the resources in the order in which the phases keep them.
-/
module

public import proofs.«01_k».proof.Proof.Steps

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## The buffers -/

abbrev xM : Memref sig .tc .vmem S2048x64 .f32 := Memref.whole cc0_stg0_0
abbrev wM : Memref sig .tc .vmem S2048x2048 .f32 := Memref.whole cc0_stg1_0
abbrev oM : Memref sig .tc .vmem S64x2048 .f32 := Memref.whole cc0_stg2_0
abbrev bM : Memref sig .tc .vmem S1024x128 .f32 := Memref.whole cc0_scratch0
abbrev aM : Memref sig .tc .vmem S32x32x128 .f32 := Memref.whole cc0_scratch1

/-- The staging buffer of device `c`'s block of the argument, at contents `f`. -/
def xPts (c : Dev nD) (f : S2048x64.Idx → Elt F .f32) : sProp 𝕄 := ((c : Thread nD τ).loc cc0_stg0_0) ↦{fullShare} f
/-- The staging buffer of device `c`'s matrix, at contents `f`. -/
def wPts (c : Dev nD) (f : S2048x2048.Idx → Elt F .f32) : sProp 𝕄 := ((c : Thread nD τ).loc cc0_stg1_0) ↦{fullShare} f
/-- The staging buffer of device `c`'s result, at contents `f`. -/
def oPts (c : Dev nD) (f : S64x2048.Idx → Elt F .f32) : sProp 𝕄 := ((c : Thread nD τ).loc cc0_stg2_0) ↦{fullShare} f

theorem off2_zero : (![0, 0] : Fin 2 → Nat) = fun _ => 0 := by funext a; fin_cases a <;> rfl

/-! ## A read and a write, in general -/

/-- A read: the program goes on at what the view reads. -/
theorem step_load (c : Dev nD) {s : Shape} {e : EltTy} (M : Memref sig .tc .vmem s e) (r : LoadRect s) {hl : M.view.LoadsAt r}
    (S : Finset (Idx (M.view.loc (c : Thread nD τ)))) (f : Buf (Elt F) (M.view.loc (c : Thread nD τ))) (hS : M.view.setOn r.set ⊆ S)
    (P : sProp 𝕄) (hP : P = (M.view.loc (c : Thread nD τ) ↦[S]{fullShare} f)) (v : r.shape.Idx → Elt F e) (hv : M.view.readAt (Elt F) r f = v)
    {Q : (r.shape.Idx → Elt F e) → sProp 𝕄} {R : sProp 𝕄} (h : iprop(P ∗ R) ⊢ Q v) :
    iprop(P ∗ R) ⊢ runs c (Prog.lift (.load M r hl)) Q := by
  subst hP hv
  unfold runs Prog.lift
  iintro ⟨H, HR⟩
  iapply (wp_load 𝒱₀ (c : Thread nD τ) none Set.univ (m := M) hS) $$ H
  iintro H
  rw [wp_ret]; imodintro
  iapply h
  isplitl [H]; · iexact H
  iexact HR

/-- A write: the buffer holds what was written. -/
theorem step_store (c : Dev nD) {s : Shape} {e : EltTy} (M : Memref sig .tc .vmem s e) (r : Rect s) (w : r.shape.Idx → Elt F e)
    {hx : (M.access r).Stores Finset.univ} {hm : (Finset.univ : Finset r.shape.Idx) = Finset.univ ∨ ∀ a, r.stride a = 1}
    (S : Finset (Idx ((M.access r).loc (c : Thread nD τ)))) (f : Buf (Elt F) ((M.access r).loc (c : Thread nD τ))) (hS : (M.access r).setOn Finset.univ ⊆ S)
    (P P' : sProp 𝕄) (hP : P = ((M.access r).loc (c : Thread nD τ) ↦[S]{fullShare} f))
    (hP' : ((M.access r).loc (c : Thread nD τ) ↦[S]{fullShare} ((M.access r).write (Elt F) f w Finset.univ)) = P')
    {Q : PUnit → sProp 𝕄} {R : sProp 𝕄} (h : iprop(P' ∗ R) ⊢ Q ⟨⟩) :
    iprop(P ∗ R) ⊢ runs c (Prog.lift (.store M r w Finset.univ hx hm)) Q := by
  subst hP hP'
  unfold runs Prog.lift
  iintro ⟨H, HR⟩
  iapply (wp_store 𝒱₀ (c : Thread nD τ) none Set.univ (m := M) (r := r) (Mk := Finset.univ) hS) $$ H
  iintro H
  rw [wp_ret]; imodintro
  iapply h
  isplitl [H]; · iexact H
  iexact HR

/-- The middle one of three resources moved to the front, and back. -/
theorem to_front {A B R X : sProp 𝕄} (h : iprop(B ∗ A ∗ R) ⊢ X) : iprop(A ∗ B ∗ R) ⊢ X := by
  iintro ⟨HA, HB, HR⟩
  iapply h
  isplitl [HB]; · iexact HB
  isplitl [HA]; · iexact HA
  iexact HR
theorem to_front4 {A B C R X : sProp 𝕄} (h : iprop(C ∗ A ∗ B ∗ R) ⊢ X) : iprop(A ∗ B ∗ C ∗ R) ⊢ X := by
  iintro ⟨HA, HB, HC, HR⟩
  iapply h
  isplitl [HC]; · iexact HC
  isplitl [HA]; · iexact HA
  isplitl [HB]; · iexact HB
  iexact HR
theorem from_front4 {A B C R X : sProp 𝕄} (h : iprop(A ∗ B ∗ C ∗ R) ⊢ X) : iprop(C ∗ A ∗ B ∗ R) ⊢ X := by
  iintro ⟨HC, HA, HB, HR⟩
  iapply h
  isplitl [HA]; · iexact HA
  isplitl [HB]; · iexact HB
  isplitl [HC]; · iexact HC
  iexact HR

/-! ## The rearranged block -/

/-- The read of the argument block. -/
theorem load_x (c : Dev nD) (f : S2048x64.Idx → Elt F .f32) {hl} {Q : (S2048x64.Idx → Elt F .f32) → sProp 𝕄} {R : sProp 𝕄} (h : iprop(xPts c f ∗ R) ⊢ Q f) :
    iprop(xPts c f ∗ R) ⊢ runs c (Prog.lift (.load xM (Rect.unit (s := S2048x64) ![0, 0] S2048x64.size inb_S2048x64_S2048x64_0_0).toLoadRect hl)) Q :=
  step_load c xM _ Finset.univ f (Finset.subset_univ _) (xPts c f) rfl f (Memref.readAt_unit_zero (Elt F) cc0_stg0_0 off2_zero _ f) h
/-- A read of the whole of the first scratch buffer, of which the program makes no use. -/
theorem load_b (c : Dev nD) (f : S1024x128.Idx → Elt F .f32) {hl} {Q : (S1024x128.Idx → Elt F .f32) → sProp 𝕄} {R : sProp 𝕄}
    (h : ∀ v, iprop(x2Pts c Finset.univ f ∗ R) ⊢ Q v) :
    iprop(x2Pts c Finset.univ f ∗ R) ⊢ runs c (Prog.lift (.load bM (Rect.unit (s := S1024x128) ![0, 0] S1024x128.size inb_S1024x128_S1024x128_0_0).toLoadRect hl)) Q :=
  step_load c bM _ Finset.univ f (Finset.subset_univ _) (x2Pts c Finset.univ f) rfl _ rfl (h _)
theorem write_b (f w : S1024x128.Idx → Elt F .f32) :
    (bM.access (Rect.unit (s := S1024x128) ![0, 0] S1024x128.size inb_S1024x128_S1024x128_0_0)).write (Elt F) f w Finset.univ = w :=
  Memref.write_access_unit_zero_univ (Elt F) cc0_scratch0 off2_zero _ f w
/-- The write of the rearranged block. -/
theorem store_b (c : Dev nD) (f w : S1024x128.Idx → Elt F .f32) {hx} {hm} {Q : PUnit → sProp 𝕄} {R : sProp 𝕄} (h : iprop(x2Pts c Finset.univ w ∗ R) ⊢ Q ⟨⟩) :
    iprop(x2Pts c Finset.univ f ∗ R)
      ⊢ runs c (Prog.lift (.store bM (Rect.unit (s := S1024x128) ![0, 0] S1024x128.size inb_S1024x128_S1024x128_0_0) w Finset.univ hx hm)) Q :=
  step_store c bM (Rect.unit (s := S1024x128) ![0, 0] S1024x128.size inb_S1024x128_S1024x128_0_0) w Finset.univ f (Finset.subset_univ _) (x2Pts c Finset.univ f) (x2Pts c Finset.univ w) rfl
    (congrArg (x2Pts c Finset.univ) (write_b f w)) h

/-! ## The device's own slot -/

/-- The rows of the rearranged block that a device keeps for itself, as it reads them. -/
def ownRows (c : Dev nD) : S32x128.Idx → Elt F .f32 :=
  bM.view.readAt (Elt F) (Rect.unit (s := S1024x128) (k0_off33 c) S32x128.size (k0_off33_inb c)).toLoadRect (x2Of m ρ c)

theorem ownRows_apply (c : Dev nD) (h : Fin 32) (b : Fin 128) : ownRows m ρ c (ix2 h b) = x2Of m ρ c (fromIdx c h b) :=
  congrArg (x2Of m ρ c) (srcM_emb (k0_off33 c) c (k0_off33_eq c) (k0_off33_inb c) h b)

theorem load_own (c : Dev nD) {hl} {Q : (S32x128.Idx → Elt F .f32) → sProp 𝕄} {R : sProp 𝕄} (h : iprop(x2Pts c Finset.univ (x2Of m ρ c) ∗ R) ⊢ Q (ownRows m ρ c)) :
    iprop(x2Pts c Finset.univ (x2Of m ρ c) ∗ R)
      ⊢ runs c (Prog.lift (.load bM (Rect.unit (s := S1024x128) (k0_off33 c) S32x128.size (k0_off33_inb c)).toLoadRect hl)) Q :=
  step_load c bM _ Finset.univ (x2Of m ρ c) (Finset.subset_univ _) (x2Pts c Finset.univ (x2Of m ρ c)) rfl _ rfl h

theorem aM_setOn (X : Finset S32x32x128.Idx) : aM.view.setOn X = X := by
  ext i
  unfold View.setOn
  exact Finset.mem_map.trans ⟨fun ⟨j, hj, e⟩ => e ▸ hj, fun h => ⟨i, h, rfl⟩⟩
theorem LoadRect_set {s : Shape} (r : Rect s) (i : s.Idx) : i ∈ r.toLoadRect.set ↔ i ∈ r.set := Iff.rfl
theorem own_set (c : Dev nD) :
    (aM.access (Rect.unit (s := S32x32x128) (k0_off34 c) S1x32x128.size (k0_off34_inb c))).set = slotSet c :=
  (View.set_slice_whole cc0_scratch1 _).trans (Finset.ext fun i => mem_slot_rect _ c (k0_off34_eq c) (k0_off34_inb c) i)

theorem own_setOn (c : Dev nD) :
    aM.view.setOn (Rect.unit (s := S32x32x128) (k0_off34 c) S1x32x128.size (k0_off34_inb c)).toLoadRect.set = slotSet c := by
  refine Eq.trans ?_ (own_set c)
  ext i
  rw [aM_setOn, View.set_slice_whole]

/-- A read of the device's own slot, of which the program makes no use. -/
theorem load_slot (c : Dev nD) (f : S32x32x128.Idx → Elt F .f32) {hl} {Q : (S1x32x128.Idx → Elt F .f32) → sProp 𝕄} {R : sProp 𝕄}
    (h : ∀ v, iprop(asmPts c (slotSet c) f ∗ R) ⊢ Q v) :
    iprop(asmPts c (slotSet c) f ∗ R)
      ⊢ runs c (Prog.lift (.load aM (Rect.unit (s := S32x32x128) (k0_off34 c) S1x32x128.size (k0_off34_inb c)).toLoadRect hl)) Q :=
  step_load c aM _ _ f (Finset.subset_of_eq (own_setOn c)) (asmPts c (slotSet c) f) rfl _ rfl (h _)

/-- What the write of the own slot leaves there. -/
theorem own_landed (c : Dev nD) (f : S32x32x128.Idx → Elt F .f32) (i : S32x32x128.Idx) (hi : i ∈ slotSet c) :
    (aM.access (Rect.unit (s := S32x32x128) (k0_off34 c) S1x32x128.size (k0_off34_inb c))).write (Elt F) f (k0_pay2 (ownRows m ρ c)) Finset.univ i = asmOf m ρ c i := by
  have e : (aM.access (Rect.unit (s := S32x32x128) (k0_off34 c) S1x32x128.size (k0_off34_inb c))).emb (ix3 (⟨0, Nat.one_pos⟩ : Fin 1) (i 1) (i 2) : S1x32x128.Idx) = i := by
    have ho := k0_off34_eq c
    generalize k0_off34_inb c = hin
    revert hin
    rw [ho]
    intro hin
    have h0 := mem_slotSet.mp hi
    funext a
    refine Fin.ext ((ValueKit.rect_emb_unit_val (s := S32x32x128) _ _ hin _ a).trans ?_)
    fin_cases a
    · show c.val + 0 = (i 0).val; omega
    · show 0 + (i 1).val = (i 1).val; omega
    · show 0 + (i 2).val = (i 2).val; omega
  have h0 : i 0 = c := Fin.ext (mem_slotSet.mp hi)
  refine (congrArg _ e.symm).trans ((View.write_emb_of_mem _ _ (Finset.mem_univ _)).trans ?_)
  refine (ValueIdx.shapeCast_ab_1ab_apply (ownRows m ρ c) _ _ _ _).trans ((ownRows_apply m ρ c (i 1) (i 2)).trans ?_)
  show x2Of m ρ c _ = x2Of m ρ (i 0) (fromIdx c (i 1) (i 2))
  rw [h0]

theorem store_slot (c : Dev nD) (f : S32x32x128.Idx → Elt F .f32) {hx} {hm} {Q : PUnit → sProp 𝕄} {R : sProp 𝕄}
    (h : iprop(asmPts c (slotSet c) (asmOf m ρ c) ∗ R) ⊢ Q ⟨⟩) :
    iprop(asmPts c (slotSet c) f ∗ R)
      ⊢ runs c (Prog.lift (.store aM (Rect.unit (s := S32x32x128) (k0_off34 c) S1x32x128.size (k0_off34_inb c)) (k0_pay2 (ownRows m ρ c)) Finset.univ hx hm)) Q :=
  step_store c aM (Rect.unit (s := S32x32x128) (k0_off34 c) S1x32x128.size (k0_off34_inb c)) (k0_pay2 (ownRows m ρ c)) (slotSet c) f
    (Finset.subset_of_eq (own_set c)) (asmPts c (slotSet c) f) (asmPts c (slotSet c) (asmOf m ρ c)) rfl
    (pointsTo_congr fun i hi => own_landed m ρ c f i hi) h

/-! ## The products -/

/-- Eight slots of the receive buffer, as the program reads them. -/
def slots8 (c : Dev nD) (o : Fin 3 → Nat) (hin : ∀ a, o a + S8x32x128.size a ≤ S32x32x128.size a) : S8x32x128.Idx → Elt F .f32 :=
  aM.view.readAt (Elt F) (Rect.unit (s := S32x32x128) o S8x32x128.size hin).toLoadRect (asmOf m ρ c)
/-- Five hundred and twelve rows of the matrix, as the program reads them. -/
def rows512 (c : Dev nD) (o : Fin 2 → Nat) (hin : ∀ a, o a + S512x2048.size a ≤ S2048x2048.size a) : S512x2048.Idx → Elt F .f32 :=
  wM.view.readAt (Elt F) (Rect.unit (s := S2048x2048) o S512x2048.size hin).toLoadRect (wstg m ρ c)

theorem slots8_sub (c : Dev nD) (g n : ℕ) (hn : n = g + 8) (hin : ∀ a, (![g, 0, 0] : Fin 3 → Nat) a + S8x32x128.size a ≤ S32x32x128.size a) :
    aM.view.setOn (Rect.unit (s := S32x32x128) ![g, 0, 0] S8x32x128.size hin).toLoadRect.set ⊆ asmHead n c := by
  intro i hi
  rw [aM_setOn] at hi
  have h := Rect.mem_set_unit.mp ((LoadRect_set _ i).mp hi)
  have h : g ≤ (i 0).val ∧ (i 0).val < g + 8 := h 0
  exact mem_asmHead.mpr (Or.inl (by omega))

/-- The read of eight slots that have been filled. -/
theorem load_slots (c : Dev nD) (g n : ℕ) (hn : n = g + 8) {hin} {hl} {Q : (S8x32x128.Idx → Elt F .f32) → sProp 𝕄} {R : sProp 𝕄}
    (h : iprop(ctx m ρ K ∗ S3 m ρ c n ∗ R) ⊢ Q (slots8 m ρ c ![g, 0, 0] hin)) :
    iprop(ctx m ρ K ∗ S3 m ρ c n ∗ R)
      ⊢ runs c (Prog.lift (.load aM (Rect.unit (s := S32x32x128) ![g, 0, 0] S8x32x128.size hin).toLoadRect hl)) Q := by
  refine BIBase.Entails.trans (Q := iprop(asmPts c (asmHead n c) (asmOf m ρ c) ∗ ctx m ρ K ∗ (∃ W, owes (c : Thread nD τ) 0 W)
    ∗ (bigSep (geNe n c) fun s => iprop(atPos ER (recvCell c s) 0 ∅ 0 ∗ cred (tallyAt (recvCell c s) () N)))
    ∗ (bigSep (ltEq n c) fun s => semVal (recvCell c s) 0) ∗ R)) ?_ (step_load c aM _ (asmHead n c) (asmOf m ρ c) (slots8_sub c g n hn hin) (asmPts c (asmHead n c) (asmOf m ρ c)) rfl _ rfl ?_)
  · unfold S3
    iintro ⟨Hc, ⟨HO, Hts, Ha, Hz⟩, HR⟩
    isplitl [Ha]; · iexact Ha
    isplitl [Hc]; · iexact Hc
    isplitl [HO]; · iexact HO
    isplitl [Hts]; · iexact Hts
    isplitl [Hz]; · iexact Hz
    iexact HR
  · refine BIBase.Entails.trans ?_ h
    unfold S3
    iintro ⟨Ha, Hc, HO, Hts, Hz, HR⟩
    isplitl [Hc]; · iexact Hc
    isplitr [HR]
    · isplitl [HO]; · iexact HO
      isplitl [Hts]; · iexact Hts
      isplitl [Ha]; · iexact Ha
      iexact Hz
    iexact HR

/-- The matrix and the result, in their staging buffers. -/
def wo (c : Dev nD) (f : S64x2048.Idx → Elt F .f32) : sProp 𝕄 := iprop(wPts c (wstg m ρ c) ∗ oPts c f)

/-- The read of rows of the matrix. -/
theorem load_rows (c : Dev nD) (f : S64x2048.Idx → Elt F .f32) {o : Fin 2 → Nat} {hin} {hl} {Q : (S512x2048.Idx → Elt F .f32) → sProp 𝕄} {A B R : sProp 𝕄}
    (h : iprop(A ∗ B ∗ wo m ρ c f ∗ R) ⊢ Q (rows512 m ρ c o hin)) :
    iprop(A ∗ B ∗ wo m ρ c f ∗ R) ⊢ runs c (Prog.lift (.load wM (Rect.unit (s := S2048x2048) o S512x2048.size hin).toLoadRect hl)) Q := by
  refine BIBase.Entails.trans (Q := iprop(wPts c (wstg m ρ c) ∗ oPts c f ∗ A ∗ B ∗ R)) ?_ (step_load c wM _ Finset.univ (wstg m ρ c) (Finset.subset_univ _) (wPts c (wstg m ρ c)) rfl _ rfl ?_)
  · unfold wo
    iintro ⟨HA, HB, ⟨Hw, Ho⟩, HR⟩
    isplitl [Hw]; · iexact Hw
    isplitl [Ho]; · iexact Ho
    isplitl [HA]; · iexact HA
    isplitl [HB]; · iexact HB
    iexact HR
  · refine BIBase.Entails.trans ?_ h
    unfold wo
    iintro ⟨Hw, Ho, HA, HB, HR⟩
    isplitl [HA]; · iexact HA
    isplitl [HB]; · iexact HB
    isplitr [HR]
    · isplitl [Hw]; · iexact Hw
      iexact Ho
    iexact HR

/-- The read of the result so far. -/
theorem load_o (c : Dev nD) (f : S64x2048.Idx → Elt F .f32) {hl} {Q : (S64x2048.Idx → Elt F .f32) → sProp 𝕄} {A B R : sProp 𝕄}
    (h : iprop(A ∗ B ∗ wo m ρ c f ∗ R) ⊢ Q f) :
    iprop(A ∗ B ∗ wo m ρ c f ∗ R) ⊢ runs c (Prog.lift (.load oM (Rect.unit (s := S64x2048) ![0, 0] S64x2048.size inb_S64x2048_S64x2048_0_0).toLoadRect hl)) Q := by
  refine BIBase.Entails.trans (Q := iprop(oPts c f ∗ wPts c (wstg m ρ c) ∗ A ∗ B ∗ R)) ?_ (step_load c oM _ Finset.univ f (Finset.subset_univ _) (oPts c f) rfl f (Memref.readAt_unit_zero (Elt F) cc0_stg2_0 off2_zero _ f) ?_)
  · unfold wo
    iintro ⟨HA, HB, ⟨Hw, Ho⟩, HR⟩
    isplitl [Ho]; · iexact Ho
    isplitl [Hw]; · iexact Hw
    isplitl [HA]; · iexact HA
    isplitl [HB]; · iexact HB
    iexact HR
  · refine BIBase.Entails.trans ?_ h
    unfold wo
    iintro ⟨Ho, Hw, HA, HB, HR⟩
    isplitl [HA]; · iexact HA
    isplitl [HB]; · iexact HB
    isplitr [HR]
    · isplitl [Hw]; · iexact Hw
      iexact Ho
    iexact HR

theorem write_o (f w : S64x2048.Idx → Elt F .f32) :
    (oM.access (Rect.unit (s := S64x2048) ![0, 0] S64x2048.size inb_S64x2048_S64x2048_0_0)).write (Elt F) f w Finset.univ = w :=
  Memref.write_access_unit_zero_univ (Elt F) cc0_stg2_0 off2_zero _ f w
/-- The write of the result. -/
theorem store_o (c : Dev nD) (f w : S64x2048.Idx → Elt F .f32) {hx} {hm} {Q : PUnit → sProp 𝕄} {A B R : sProp 𝕄}
    (h : iprop(A ∗ B ∗ wo m ρ c w ∗ R) ⊢ Q ⟨⟩) :
    iprop(A ∗ B ∗ wo m ρ c f ∗ R)
      ⊢ runs c (Prog.lift (.store oM (Rect.unit (s := S64x2048) ![0, 0] S64x2048.size inb_S64x2048_S64x2048_0_0) w Finset.univ hx hm)) Q := by
  refine BIBase.Entails.trans (Q := iprop(oPts c f ∗ wPts c (wstg m ρ c) ∗ A ∗ B ∗ R)) ?_ (step_store c oM (Rect.unit (s := S64x2048) ![0, 0] S64x2048.size inb_S64x2048_S64x2048_0_0) w Finset.univ f (Finset.subset_univ _) (oPts c f) (oPts c w) rfl
    (congrArg (oPts c) (write_o f w)) ?_)
  · unfold wo
    iintro ⟨HA, HB, ⟨Hw, Ho⟩, HR⟩
    isplitl [Ho]; · iexact Ho
    isplitl [Hw]; · iexact Hw
    isplitl [HA]; · iexact HA
    isplitl [HB]; · iexact HB
    iexact HR
  · refine BIBase.Entails.trans ?_ h
    unfold wo
    iintro ⟨Ho, Hw, HA, HB, HR⟩
    isplitl [HA]; · iexact HA
    isplitl [HB]; · iexact HB
    isplitr [HR]
    · isplitl [Hw]; · iexact Hw
      iexact Ho
    iexact HR

end Cert.Gather

end
-- ==== Proof.Calls.lean ====
/-
# The steps as the kernel writes them

The steps of the four phases, at the words, the offsets and the semaphores that the kernel computes, and the changes from
one phase to the next.
-/
module

public import proofs.«01_k».proof.Proof.Access

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## The kernel's words -/

/-- The device's number, as the kernel computes it. -/
def mine (c : Dev nD) : BitVec 32 := Scalar.remsi (Scalar.divsi (Dev.word c) 1#32) 32#32
/-- Whether that number is not `n`, as a word. -/
def differs (c : Dev nD) (n : BitVec 32) : BitVec 32 := Scalar.extui (Scalar.cmpi .ne (mine c) n)

theorem differs_iff : ∀ (c : Dev nD) (j : Fin 32), Scalar.cmpi .ne (differs c (BitVec.ofNat 32 j.val)) 0#32 = 1#1 ↔ c ≠ j := by
  decide +kernel

theorem dev1_eq (c : Dev nD) : (⟨k0_dev1 c, k0_dev1_lt c⟩ : Dev nD) = c := Fin.ext (k0_dev1_eq c)

theorem off35_at (c : Dev nD) (δ : Fin 32) (h : 1 ≤ δ.val) : k0_off35 c (BitVec.ofNat 32 δ.val) = ![(c + δ : Fin 32).val] := by
  have h' := k0_off35_eq c ⟨δ.val - 1, by omega⟩
  have e : 1 + (δ.val - 1) = δ.val := by omega
  have e' : (c.val + (δ.val - 1) + 1) % 32 = (c + δ : Fin 32).val := by rw [Fin.val_add]; congr 1; omega
  simp only [e, e'] at h'
  exact h'
theorem off38_at (c : Dev nD) (δ : Fin 32) (h : 1 ≤ δ.val) : k0_off38 c (BitVec.ofNat 32 δ.val) = ![32 * (c + δ : Fin 32).val, 0] := by
  have h' := k0_off38_eq c ⟨δ.val - 1, by omega⟩
  have e : 1 + (δ.val - 1) = δ.val := by omega
  have e' : (c.val + (δ.val - 1) + 1) % 32 = (c + δ : Fin 32).val := by rw [Fin.val_add]; congr 1; omega
  simp only [e, e'] at h'
  exact h'

/-! ## The steps -/

/-- The wait for the device `δ` places ahead to say that its slot is free. -/
theorem call_ready (c : Dev nD) (δ : Fin 32) (hδ : 1 ≤ δ.val) {hin} {Q : PUnit → sProp 𝕄} {R : sProp 𝕄}
    (h : iprop(ctx m ρ K ∗ S2w m ρ c δ ∗ R) ⊢ Q ⟨⟩) :
    iprop(ctx m ρ K ∗ S2 m ρ c δ.val ∗ R)
      ⊢ runs c (semWaitWord ((cc0_scratch4.slice (Rect.unit (s := S32) (k0_off35 c (BitVec.ofNat 32 δ.val)) KernelIdeal.S1.size hin)).squeeze S_ squeezes_S1_S_).sem 1#32) Q :=
  step_ready m ρ K c δ hδ _ (ready_sem _ (c + δ) (off35_at c δ hδ) hin) h

/-- The transfer to the device `δ` places ahead. -/
theorem call_send (c : Dev nD) (δ : Fin 32) (hδ : 1 ≤ δ.val) (t : Dev nD) (ht : t = c + δ) (hinS) {hinR} {hin2} {hin3}
    {hsc : (slotM (k0_off37 c) hin3 : Memref sig (Dev.tc t : Thread nD τ).2.kind .vmem S32x128 .f32).view.ref.isScScratch = false}
    {hsrc : (srcM (k0_off38 c (BitVec.ofNat 32 δ.val)) hin2).view.WordExact} {hdst : (slotM (k0_off37 c) hin3).view.WordExact}
    {hsem}
    {Q : PUnit → sProp 𝕄} {R : sProp 𝕄}
    (h : iprop(ctx m ρ K ∗ S2 m ρ c (δ.val + 1) ∗ R) ⊢ Q ⟨⟩) :
    iprop(ctx m ρ K ∗ S2w m ρ c δ ∗ R)
      ⊢ runs c (Prog.lift (.enqueueDma (srcM (k0_off38 c (BitVec.ofNat 32 δ.val)) hin2)
          (.remote (Dev.tc t : Thread nD τ) (slotM (k0_off37 c) hin3)
            (.dma ((cc0_scratch2.slice (Rect.unit (s := S32) ![δ.val] KernelIdeal.S1.size hinS)).squeeze S_ squeezes_S1_S_).sem) hsc)
          (.dma ((cc0_scratch3.slice (Rect.unit (s := S32) (k0_off36 c) KernelIdeal.S1.size hinR)).squeeze S_ squeezes_S1_S_).sem) hsrc hdst hsem)) Q :=
  step_send m ρ K c δ hδ t ht _ (off38_at c δ hδ) hin2 _ (k0_off37_eq c) hin3 _ (send_sem _ δ rfl hinS) _ (recv_sem _ c (k0_off36_eq c) hinR) h

/-- The wait for the message of device `s`. -/
theorem call_recv (c : Dev nD) (s : Fin 32) (b : BitVec 1) (hb : b = Scalar.cmpi .ne (differs c (BitVec.ofNat 32 s.val)) 0#32) (hinS)
    {o2 : Fin 2 → Nat} {hin2} {o3 : Fin 3 → Nat} {hin3} {hsrc : (srcM o2 hin2).view.WordExact} {hdst : (slotM o3 hin3).view.WordExact}
    {Q : PUnit → sProp 𝕄} {R : sProp 𝕄} (h : iprop(ctx m ρ K ∗ S3 m ρ c (s.val + 1) ∗ R) ⊢ Q ⟨⟩) :
    iprop(ctx m ρ K ∗ S3 m ρ c s.val ∗ R)
      ⊢ runs c (if h : b = 1#1 then (do
          Prog.lift (.waitDma2 ((cc0_scratch3.slice (Rect.unit (s := S32) ![s.val] KernelIdeal.S1.size hinS)).squeeze S_ squeezes_S1_S_).sem (srcM o2 hin2) (slotM o3 hin3) hsrc hdst)
          pure ⟨⟩) else (do pure ⟨⟩)) Q :=
  step_recv m ρ K c s b (by rw [hb]; exact differs_iff c s) _ (recv_sem _ s rfl hinS) h

/-- The wait for the message to the device `δ` places ahead to have left. -/
theorem call_left (c : Dev nD) (δ : Fin 32) (hδ : 1 ≤ δ.val) (hinS)
    {o2 : Fin 2 → Nat} {hin2} {o3 : Fin 3 → Nat} {hin3} {hsrc : (slotM o3 hin3).view.WordExact} {hdst : (srcM o2 hin2).view.WordExact}
    {Q : PUnit → sProp 𝕄} {R : sProp 𝕄} (h : iprop(ctx m ρ K ∗ S4 m ρ c (δ.val + 1) ∗ R) ⊢ Q ⟨⟩) :
    iprop(ctx m ρ K ∗ S4 m ρ c δ.val ∗ R)
      ⊢ runs c (Prog.lift (.waitDma2 ((cc0_scratch2.slice (Rect.unit (s := S32) ![δ.val] KernelIdeal.S1.size hinS)).squeeze S_ squeezes_S1_S_).sem (slotM o3 hin3) (srcM o2 hin2) hsrc hdst)) Q :=
  step_left m ρ K c δ hδ _ (send_sem _ δ rfl hinS) h

/-- The barrier: the signal to the device itself, and the wait for it. -/
theorem call_barrier (c d : Dev nD) (hd : d = c) {α : Type} {k : PUnit → Prog (TpuEff nD τ sig (Elt F) Λ₀ .tc) α} {Q : α → sProp 𝕄} {R : sProp 𝕄}
    (h : iprop(ctx m ρ K ∗ ((∃ W, owes (c : Thread nD τ) (O1 c 0) W) ∗ semVal (barCell c) 0) ∗ R) ⊢ runs c (k ⟨⟩) Q) :
    iprop(ctx m ρ K ∗ ((∃ W, owes (c : Thread nD τ) (O₀ c) W) ∗ atPos ER (barCell c) 0 ∅ 0 ∗ cred (tallyAt (barCell c) () 1) ∗ dutyTok ER (barCell c) 0 ()) ∗ R)
      ⊢ runs c (semSignalWord d barS 1#32 >>= fun _ => semWaitWord barS 1#32 >>= k) Q := by
  rw [← bind_assoc]
  exact runs_bind c (step_barrier m ρ K c d hd h)

/-! ## From one phase to the next -/

theorem asmTail_zero (c : Fin 32) : asmTail 0 c = Finset.univ := by
  ext i; rw [mem_asmTail]; exact ⟨fun _ => Finset.mem_univ _, fun _ => Or.inl (Nat.zero_le _)⟩
theorem asmTail_end (c : Fin 32) : asmTail 32 c = slotSet c := by
  ext i; rw [mem_asmTail, mem_slotSet]; have : (i 0).val < 32 := (i 0).isLt; omega
theorem asmHead_zero (c : Fin 32) : asmHead 0 c = slotSet c := by
  ext i; rw [mem_asmHead, mem_slotSet]; omega
theorem asmHead_end (c : Fin 32) : asmHead 32 c = Finset.univ := by
  ext i; rw [mem_asmHead]; have : (i 0).val < 32 := (i 0).isLt; exact ⟨fun _ => Finset.mem_univ _, fun _ => Or.inl this⟩
theorem x2Head_one (c : Fin 32) : x2Head 1 c = rowSet c := by
  ext i
  have h := mem_rowSet (c := c) (δ := 0) (i := i)
  rw [add_zero] at h
  rw [mem_x2Head, h]
  exact Nat.lt_one_iff
theorem x2Head_end (c : Fin 32) : x2Head 32 c = Finset.univ := by
  ext i; rw [mem_x2Head]; exact ⟨fun _ => Finset.mem_univ _, fun _ => (ahead c i).isLt⟩
theorem x2_split (c : Fin 32) : (Finset.univ : Finset S1024x128.Idx) = rowSet c ∪ x2Tail 1 c := by
  ext i
  rw [← x2Head_one, Finset.mem_union, mem_x2Head, mem_x2Tail]
  exact ⟨fun _ => Nat.lt_or_ge _ _, fun _ => Finset.mem_univ _⟩
theorem x2_split_disj (c : Fin 32) : Disjoint (rowSet c) (x2Tail 1 c) := by
  rw [← x2Head_one, Finset.disjoint_left]; intro i; rw [mem_x2Head, mem_x2Tail]; omega

theorem geNe_end (c : Fin 32) : geNe 32 c = ∅ := by
  ext j; rw [mem_geNe]; have := j.isLt; exact ⟨fun h => absurd h.1 (by omega), fun h => absurd h (Finset.notMem_empty _)⟩
theorem ge_end : ge 32 = ∅ := by
  ext j; rw [mem_ge]; have := j.isLt; exact ⟨fun h => absurd h (by omega), fun h => absurd h (Finset.notMem_empty _)⟩
theorem mid_one : mid 1 = ∅ := by
  ext j; rw [mem_mid]; exact ⟨fun h => absurd h.2 (by omega), fun h => absurd h (Finset.notMem_empty _)⟩
theorem mid_end : mid 32 = ge 1 := by
  ext j; rw [mem_mid, mem_ge]; have := j.isLt; exact ⟨fun h => h.1, fun h => ⟨h, this⟩⟩
theorem lt_one : lt 1 = {0} := by
  ext j; rw [mem_lt, Finset.mem_singleton, Fin.ext_iff]; exact Nat.lt_one_iff
theorem lt_end : lt 32 = Finset.univ := by
  ext j; rw [mem_lt]; exact ⟨fun _ => Finset.mem_univ _, fun _ => j.isLt⟩
theorem ltEq_zero (c : Fin 32) : ltEq 0 c = {c} := by
  ext j; rw [mem_ltEq, Finset.mem_singleton]; exact ⟨fun h => h.resolve_left (Nat.not_lt_zero _), Or.inr⟩
theorem ltEq_end (c : Fin 32) : ltEq 32 c = Finset.univ := by
  ext j; rw [mem_ltEq]; exact ⟨fun _ => Finset.mem_univ _, fun _ => Or.inl j.isLt⟩

/-- The first phase starts. -/
theorem enter1 (c : Dev nD) :
    iprop((∃ W, owes (c : Thread nD τ) (O1 c 0) W) ∗ (bigSep (geNe 0 c) fun j => dutyTok ER (readyCell j c) 0 ()) ∗ ∃ f, asmPts (F := F) c Finset.univ f) ⊢ S1 (F := F) c 0 := by
  unfold S1; rw [asmTail_zero]

/-- The first phase ends: the device has its own slot left. -/
theorem leave1 (c : Dev nD) : S1 (F := F) c 32 ⊢ iprop((∃ W, owes (c : Thread nD τ) (O2 c 1) W) ∗ ∃ f, asmPts (F := F) c (slotSet c) f) := by
  unfold S1; rw [asmTail_end, O1_end]
  iintro ⟨HO, -, Ha⟩
  isplitl [HO]; · iexact HO
  iexact Ha

/-- The second phase starts; the device keeps its own rows aside. -/
theorem enter2 (c : Dev nD) :
    iprop((∃ W, owes (c : Thread nD τ) (O2 c 1) W) ∗ (bigSep (ge 1) fun δ => msg (F := F) c δ) ∗ x2Pts c Finset.univ (x2Of m ρ c) ∗ semVal (readyCell c c) 0)
      ⊢ iprop(S2 m ρ c 1 ∗ x2Pts c (rowSet c) (x2Of m ρ c)) := by
  unfold S2
  rw [lt_one, bigSep_singleton, mid_one, bigSep_empty, add_zero, x2_split c]
  iintro ⟨HO, Hms, Hx, Hz⟩
  ihave Hx' := (x2Pts_union c _ _ (x2_split_disj c) (x2Of m ρ c)).1 $$ Hx
  icases Hx' with ⟨Hrow, Hx⟩
  isplitr [Hrow]
  · isplitl [HO]; · iexact HO
    isplitl [Hms]; · iexact Hms
    isplitl [Hx]; · iexact Hx
    isplitl [Hz]; · iexact Hz
    iempintro
  iexact Hrow

/-- What the second phase leaves: the ready cells closed, and the credit of the messages sent. -/
def left2 (c : Dev nD) : sProp 𝕄 := bigSep (lt 32) fun δ => semVal (readyCell c (c + δ)) 0

/-- The third phase starts after the second. -/
theorem enter3 (c : Dev nD) :
    iprop(S2 m ρ c 32 ∗ asmPts c (slotSet c) (asmOf m ρ c) ∗ (bigSep (geNe 0 c) fun s => iprop(atPos ER (recvCell c s) 0 ∅ 0 ∗ cred (tallyAt (recvCell c s) () N)))
        ∗ semVal (recvCell c c) 0)
      ⊢ iprop(S3 m ρ c 0 ∗ left2 (F := F) c ∗ bigSep (ge 1) fun δ => cred (tallyAt (sendCell c δ) () N)) := by
  unfold S2 S3 left2
  rw [O2_end, mid_end, asmHead_zero, ltEq_zero, bigSep_singleton]
  iintro ⟨⟨HO, -, -, Hz, Hs⟩, Ha, Hts, Hz'⟩
  isplitr [Hz Hs]
  · isplitl [HO]; · iexact HO
    isplitl [Hts]; · iexact Hts
    isplitl [Ha]; · iexact Ha
    iexact Hz'
  isplitl [Hz]; · iexact Hz
  iexact Hs

/-- Two families joined into one. -/
theorem zip_sep {I : Type} (s : Finset I) (Φ Ψ : I → sProp 𝕄) : iprop(bigSep s Φ ∗ bigSep s Ψ) ⊢ bigSep s fun i => iprop(Φ i ∗ Ψ i) :=
  (BI.bigSep_sep s Φ Ψ).symm.le
/-- One family parted into two. -/
theorem unzip_sep {I : Type} (s : Finset I) (Φ Ψ : I → sProp 𝕄) : (bigSep s fun i => iprop(Φ i ∗ Ψ i)) ⊢ iprop(bigSep s Φ ∗ bigSep s Ψ) :=
  (BI.bigSep_sep s Φ Ψ).le

/-- What the third phase leaves: the receive buffer filled, and its cells closed. -/
def left3 (c : Dev nD) : sProp 𝕄 := iprop(asmPts c Finset.univ (asmOf m ρ c) ∗ bigSep Finset.univ fun s => semVal (recvCell c s) 0)

/-- The fourth phase starts after the third. -/
theorem enter4 (c : Dev nD) :
    iprop(S3 m ρ c 32 ∗ x2Pts c (rowSet c) (x2Of m ρ c) ∗ (bigSep (ge 1) fun δ => atPos ER (sendCell c δ) 0 ∅ 0)
        ∗ (bigSep (ge 1) fun δ => cred (tallyAt (sendCell c δ) () N)) ∗ semVal (sendCell c 0) 0)
      ⊢ iprop(S4 m ρ c 1 ∗ left3 m ρ c) := by
  unfold S3 S4 left3
  rw [asmHead_end, ltEq_end, lt_one, bigSep_singleton, x2Head_one]
  iintro ⟨⟨HO, -, Ha, Hz⟩, Hx, Hat, Hcr, Hz'⟩
  isplitr [Ha Hz]
  · isplitl [HO]; · iexact HO
    isplitl [Hat Hcr]
    · iapply (zip_sep (F := F) _ _ _)
      isplitl [Hat]; · iexact Hat
      iexact Hcr
    isplitl [Hx]; · iexact Hx
    iexact Hz'
  isplitl [Ha]; · iexact Ha
  iexact Hz

/-- The fourth phase ends. -/
theorem leave4 (c : Dev nD) :
    S4 m ρ c 32 ⊢ iprop((∃ W, owes (c : Thread nD τ) 0 W) ∗ x2Pts c Finset.univ (x2Of m ρ c) ∗ bigSep Finset.univ fun δ => semVal (sendCell c δ) 0) := by
  unfold S4
  rw [x2Head_end, lt_end]
  iintro ⟨HO, -, Hx, Hz⟩
  isplitl [HO]; · iexact HO
  isplitl [Hx]; · iexact Hx
  iexact Hz

/-! ## The steps, with the program that follows them -/

/-- The device's number, read. -/
theorem call_deviceId (c : Dev nD) {α : Type} {k : Dev nD → Prog (TpuEff nD τ sig (Elt F) Λ₀ .tc) α} {Q : α → sProp 𝕄} {P : sProp 𝕄} (h : P ⊢ runs c (k c) Q) :
    P ⊢ runs c (Prog.lift .deviceId >>= k) Q := by
  refine runs_bind c ?_
  unfold runs Prog.lift
  rw [wp_deviceId, wp_ret]
  iintro H; imodintro; iapply h; iexact H

/-- The signal to device `j`, left out if it is the device itself. -/
theorem then_signal (c : Dev nD) (j : Fin 32) (b : BitVec 1) (hb : b = 1#1 ↔ c ≠ j) (dv : b = 1#1 → Dev nD) (hdv : ∀ h, dv h = j)
    (sm : b = 1#1 → Sem sig) (hsm : ∀ h, sm h = readyS c) {α : Type} {k : Prog (TpuEff nD τ sig (Elt F) Λ₀ .tc) α} {Q : α → sProp 𝕄} {R : sProp 𝕄}
    (h : iprop(ctx m ρ K ∗ S1 c (j.val + 1) ∗ R) ⊢ runs c k Q) :
    iprop(ctx m ρ K ∗ S1 c j.val ∗ R) ⊢ runs c (if h : b = 1#1 then (semSignalWord (dv h) (sm h) 1#32 >>= fun _ => k) else k) Q := by
  have h' := runs_bind c (k := fun _ => k) (step_signal m ρ K c j b hb dv hdv sm hsm h)
  by_cases hb' : b = 1#1
  · rw [dif_pos hb'] at h' ⊢
    rw [bind_assoc] at h'
    exact h'
  · rw [dif_neg hb'] at h' ⊢
    exact h'

/-- The wait for the message of device `s`, left out if it is the device itself. -/
theorem then_recv (c : Dev nD) (s : Fin 32) (b : BitVec 1) (hb : b = Scalar.cmpi .ne (differs c (BitVec.ofNat 32 s.val)) 0#32) (hinS)
    {o2 : Fin 2 → Nat} {hin2} {o3 : Fin 3 → Nat} {hin3} {hsrc : (srcM o2 hin2).view.WordExact} {hdst : (slotM o3 hin3).view.WordExact}
    {α : Type} {k : Prog (TpuEff nD τ sig (Elt F) Λ₀ .tc) α} {Q : α → sProp 𝕄} {R : sProp 𝕄} (h : iprop(ctx m ρ K ∗ S3 m ρ c (s.val + 1) ∗ R) ⊢ runs c k Q) :
    iprop(ctx m ρ K ∗ S3 m ρ c s.val ∗ R)
      ⊢ runs c (if h : b = 1#1 then
          (Prog.lift (.waitDma2 ((cc0_scratch3.slice (Rect.unit (s := S32) ![s.val] KernelIdeal.S1.size hinS)).squeeze S_ squeezes_S1_S_).sem (srcM o2 hin2) (slotM o3 hin3) hsrc hdst) >>= fun _ => k)
          else k) Q := by
  have h' := runs_bind c (k := fun _ => k) (call_recv m ρ K c s b hb hinS (hsrc := hsrc) (hdst := hdst) h)
  by_cases hb' : b = 1#1
  · rw [dif_pos hb'] at h' ⊢
    rw [bind_assoc] at h'
    exact h'
  · rw [dif_neg hb'] at h' ⊢
    exact h'

/-! ## What each phase brings to the next -/

/-- For the first phase: a token at each other device's ready cell, and the receive buffer. -/
def toward1 (c : Dev nD) : sProp 𝕄 := iprop((bigSep (geNe 0 c) fun j => dutyTok ER (readyCell j c) 0 ()) ∗ ∃ f, asmPts (F := F) c Finset.univ f)
/-- For the second phase: what each message needs, and the device's own ready cell, closed. -/
def toward2 (c : Dev nD) : sProp 𝕄 := iprop((bigSep (ge 1) fun δ => msg (F := F) c δ) ∗ semVal (readyCell c c) 0)
/-- For the third phase: the receive cells. -/
def toward3 (c : Dev nD) : sProp 𝕄 :=
  iprop((bigSep (geNe 0 c) fun s => iprop(atPos ER (recvCell c s) 0 ∅ 0 ∗ cred (tallyAt (recvCell c s) () N))) ∗ semVal (recvCell c c) 0)
/-- For the fourth phase: the send cells. -/
def toward4 (c : Dev nD) : sProp 𝕄 := iprop((bigSep (ge 1) fun δ => atPos ER (sendCell c δ) 0 ∅ 0) ∗ semVal (sendCell c 0) 0)
/-- What the second phase hands over the third to the fourth. -/
def over3 (c : Dev nD) : sProp 𝕄 :=
  iprop(left2 (F := F) c ∗ (bigSep (ge 1) fun δ => cred (tallyAt (sendCell c δ) () N)) ∗ x2Pts c (rowSet c) (x2Of m ρ c))

/-- The rearrangement of the block. -/
theorem call_rearrange (c : Dev nD) {hl} {hl'} {hx} {hm} {α : Type} {k : PUnit → Prog (TpuEff nD τ sig (Elt F) Λ₀ .tc) α} {Q : α → sProp 𝕄} {A B R : sProp 𝕄}
    (h : iprop(A ∗ B ∗ xPts c (xstg m ρ c) ∗ x2Pts c Finset.univ (x2Of m ρ c) ∗ R) ⊢ runs c (k ⟨⟩) Q) :
    iprop(A ∗ B ∗ xPts c (xstg m ρ c) ∗ (∃ f, x2Pts (F := F) c Finset.univ f) ∗ R)
      ⊢ runs c (Prog.lift (.load xM (Rect.unit (s := S2048x64) ![0, 0] S2048x64.size inb_S2048x64_S2048x64_0_0).toLoadRect hl) >>= fun v =>
          Prog.lift (.load bM (Rect.unit (s := S1024x128) ![0, 0] S1024x128.size inb_S1024x128_S1024x128_0_0).toLoadRect hl') >>= fun _ =>
          Prog.lift (.store bM (Rect.unit (s := S1024x128) ![0, 0] S1024x128.size inb_S1024x128_S1024x128_0_0) (k0_pay1 v) Finset.univ hx hm) >>= k) Q := by
  iintro ⟨HA, HB, Hx, ⟨%f, Hb⟩, HR⟩
  have key : iprop(xPts c (xstg m ρ c) ∗ x2Pts c Finset.univ f ∗ A ∗ B ∗ R)
      ⊢ runs c (Prog.lift (.load xM (Rect.unit (s := S2048x64) ![0, 0] S2048x64.size inb_S2048x64_S2048x64_0_0).toLoadRect hl) >>= fun v =>
          Prog.lift (.load bM (Rect.unit (s := S1024x128) ![0, 0] S1024x128.size inb_S1024x128_S1024x128_0_0).toLoadRect hl') >>= fun _ =>
          Prog.lift (.store bM (Rect.unit (s := S1024x128) ![0, 0] S1024x128.size inb_S1024x128_S1024x128_0_0) (k0_pay1 v) Finset.univ hx hm) >>= k) Q := by
    refine runs_bind c (load_x c (xstg m ρ c) (to_front (runs_bind c (load_b c f fun v => runs_bind c (store_b c f (x2Of m ρ c) ?_)))))
    refine BIBase.Entails.trans ?_ h
    iintro ⟨Hb, Hx, HA, HB, HR⟩
    isplitl [HA]; · iexact HA
    isplitl [HB]; · iexact HB
    isplitl [Hx]; · iexact Hx
    isplitl [Hb]; · iexact Hb
    iexact HR
  iapply key
  · isplitl [Hx]; · iexact Hx
    isplitl [Hb]; · iexact Hb
    isplitl [HA]; · iexact HA
    isplitl [HB]; · iexact HB
    iexact HR

/-- The device's own rows into its own slot, between the first two phases. -/
theorem call_own (c : Dev nD) {hl} {hl'} {hx} {hm} {α : Type} {k : PUnit → Prog (TpuEff nD τ sig (Elt F) Λ₀ .tc) α} {Q : α → sProp 𝕄} {R : sProp 𝕄}
    (h : iprop(ctx m ρ K ∗ S2 m ρ c 1 ∗ x2Pts c (rowSet c) (x2Of m ρ c) ∗ asmPts c (slotSet c) (asmOf m ρ c) ∗ R) ⊢ runs c (k ⟨⟩) Q) :
    iprop(ctx m ρ K ∗ S1 c 32 ∗ x2Pts c Finset.univ (x2Of m ρ c) ∗ toward2 c ∗ R)
      ⊢ runs c (Prog.lift (.load bM (Rect.unit (s := S1024x128) (k0_off33 c) S32x128.size (k0_off33_inb c)).toLoadRect hl) >>= fun v =>
          Prog.lift (.load aM (Rect.unit (s := S32x32x128) (k0_off34 c) S1x32x128.size (k0_off34_inb c)).toLoadRect hl') >>= fun _ =>
          Prog.lift (.store aM (Rect.unit (s := S32x32x128) (k0_off34 c) S1x32x128.size (k0_off34_inb c)) (k0_pay2 v) Finset.univ hx hm) >>= k) Q := by
  iintro ⟨Hc, HS, Hx, Ht, HR⟩
  ihave H := (leave1 c) $$ HS
  icases H with ⟨HO, ⟨%f, Ha⟩⟩
  have key : iprop(x2Pts c Finset.univ (x2Of m ρ c) ∗ asmPts c (slotSet c) f ∗ ctx m ρ K ∗ (∃ W, owes (c : Thread nD τ) (O2 c 1) W) ∗ toward2 c ∗ R)
      ⊢ runs c (Prog.lift (.load bM (Rect.unit (s := S1024x128) (k0_off33 c) S32x128.size (k0_off33_inb c)).toLoadRect hl) >>= fun v =>
          Prog.lift (.load aM (Rect.unit (s := S32x32x128) (k0_off34 c) S1x32x128.size (k0_off34_inb c)).toLoadRect hl') >>= fun _ =>
          Prog.lift (.store aM (Rect.unit (s := S32x32x128) (k0_off34 c) S1x32x128.size (k0_off34_inb c)) (k0_pay2 v) Finset.univ hx hm) >>= k) Q := by
    refine runs_bind c (load_own m ρ c (to_front (runs_bind c (load_slot c f fun v => runs_bind c (store_slot m ρ c f ?_)))))
    refine BIBase.Entails.trans ?_ h
    unfold toward2
    iintro ⟨Ha, Hx, Hc, HO, ⟨Hms, Hz⟩, HR⟩
    ihave H := (enter2 m ρ c) $$ [HO Hms Hx Hz]
    · isplitl [HO]; · iexact HO
      isplitl [Hms]; · iexact Hms
      isplitl [Hx]; · iexact Hx
      iexact Hz
    icases H with ⟨HS, Hx⟩
    isplitl [Hc]; · iexact Hc
    isplitl [HS]; · iexact HS
    isplitl [Hx]; · iexact Hx
    isplitl [Ha]; · iexact Ha
    iexact HR
  iapply key
  · isplitl [Hx]; · iexact Hx
    isplitl [Ha]; · iexact Ha
    isplitl [Hc]; · iexact Hc
    isplitl [HO]; · iexact HO
    isplitl [Ht]; · iexact Ht
    iexact HR

/-- From the barrier to the first phase. -/
theorem start1 (c : Dev nD) {A B R X : sProp 𝕄} (h : iprop(ctx m ρ K ∗ S1 c 0 ∗ B ∗ (A ∗ semVal (barCell c) 0) ∗ R) ⊢ X) :
    iprop(ctx m ρ K ∗ ((∃ W, owes (c : Thread nD τ) (O1 c 0) W) ∗ semVal (barCell c) 0) ∗ A ∗ B ∗ toward1 c ∗ R) ⊢ X := by
  refine BIBase.Entails.trans ?_ h
  unfold toward1
  iintro ⟨Hc, ⟨HO, Hz⟩, HA, HB, ⟨Ht, Ha⟩, HR⟩
  isplitl [Hc]; · iexact Hc
  isplitl [HO Ht Ha]
  · iapply (enter1 c)
    isplitl [HO]; · iexact HO
    isplitl [Ht]; · iexact Ht
    iexact Ha
  isplitl [HB]; · iexact HB
  isplitr [HR]
  · isplitl [HA]; · iexact HA
    iexact Hz
  iexact HR

/-- From the second phase to the third. -/
theorem to_third (c : Dev nD) {R X : sProp 𝕄} (h : iprop(ctx m ρ K ∗ S3 m ρ c 0 ∗ over3 m ρ c ∗ R) ⊢ X) :
    iprop(ctx m ρ K ∗ S2 m ρ c 32 ∗ x2Pts c (rowSet c) (x2Of m ρ c) ∗ asmPts c (slotSet c) (asmOf m ρ c) ∗ toward3 c ∗ R) ⊢ X := by
  refine BIBase.Entails.trans ?_ h
  unfold toward3 over3
  iintro ⟨Hc, HS, Hx, Ha, ⟨Hts, Hz⟩, HR⟩
  ihave H := (enter3 m ρ c) $$ [HS Ha Hts Hz]
  · isplitl [HS]; · iexact HS
    isplitl [Ha]; · iexact Ha
    isplitl [Hts]; · iexact Hts
    iexact Hz
  icases H with ⟨HS, Hl, Hs⟩
  isplitl [Hc]; · iexact Hc
  isplitl [HS]; · iexact HS
  isplitr [HR]
  · isplitl [Hl]; · iexact Hl
    isplitl [Hs]; · iexact Hs
    iexact Hx
  iexact HR

/-- From the third phase to the fourth. -/
theorem to_fourth (c : Dev nD) {A R X : sProp 𝕄} (h : iprop(ctx m ρ K ∗ S4 m ρ c 1 ∗ A ∗ left2 (F := F) c ∗ left3 m ρ c ∗ R) ⊢ X) :
    iprop(ctx m ρ K ∗ S3 m ρ c 32 ∗ A ∗ over3 m ρ c ∗ toward4 c ∗ R) ⊢ X := by
  refine BIBase.Entails.trans ?_ h
  unfold toward4 over3
  iintro ⟨Hc, HS, HA, ⟨Hl, Hs, Hx⟩, ⟨Hat, Hz⟩, HR⟩
  ihave H := (enter4 m ρ c) $$ [HS Hx Hat Hs Hz]
  · isplitl [HS]; · iexact HS
    isplitl [Hx]; · iexact Hx
    isplitl [Hat]; · iexact Hat
    isplitl [Hs]; · iexact Hs
    iexact Hz
  icases H with ⟨HS, Hl3⟩
  isplitl [Hc]; · iexact Hc
  isplitl [HS]; · iexact HS
  isplitl [HA]; · iexact HA
  isplitl [Hl]; · iexact Hl
  isplitl [Hl3]; · iexact Hl3
  iexact HR

/-! ## The result, one product at a time -/

/-- The product of the first eight devices' columns, -/
def acc0 (c : Dev nD) : S64x2048.Idx → Elt F .f32 := k0_pay3 (slots8 m ρ c ![0, 0, 0] inb_S32x32x128_S8x32x128_0_0_0) (rows512 m ρ c ![0, 0] inb_S2048x2048_S512x2048_0_0)
/-- of the first sixteen, -/
def acc1 (c : Dev nD) : S64x2048.Idx → Elt F .f32 :=
  k0_pay5 (k0_pay4 (slots8 m ρ c ![8, 0, 0] inb_S32x32x128_S8x32x128_8_0_0)) (rows512 m ρ c ![512, 0] inb_S2048x2048_S512x2048_512_0) (acc0 m ρ c)
/-- of the first twenty-four, -/
def acc2 (c : Dev nD) : S64x2048.Idx → Elt F .f32 :=
  k0_pay6 (slots8 m ρ c ![16, 0, 0] inb_S32x32x128_S8x32x128_16_0_0) (rows512 m ρ c ![1024, 0] inb_S2048x2048_S512x2048_1024_0) (acc1 m ρ c)
/-- and of all. -/
def acc3 (c : Dev nD) : S64x2048.Idx → Elt F .f32 :=
  k0_pay7 (slots8 m ρ c ![24, 0, 0] inb_S32x32x128_S8x32x128_24_0_0) (rows512 m ρ c ![1536, 0] inb_S2048x2048_S512x2048_1536_0) (acc2 m ρ c)

end Cert.Gather

end
-- ==== Proof.PartsSignal.lean ====
/-
# The signals

The parts of the program from its start to the last signal, each from what it needs to what it leaves.
-/
module

public import proofs.«01_k».proof.Proof.Calls

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

set_option maxHeartbeats 1000000 in
/-- The start: the block rearranged, the barrier, and the signals to the first five devices. -/
theorem part1 (c : Dev nD) {Q : (Σ' (d0 : Dev nD) (v2 : BitVec 32), BitVec 32) → sProp 𝕄} {R : sProp 𝕄}
    (h : iprop(ctx m ρ K ∗ S1 c 5 ∗ x2Pts c Finset.univ (x2Of m ρ c) ∗ (xPts c (xstg m ρ c) ∗ semVal (barCell c) 0) ∗ R) ⊢ Q ⟨c, mine c, 5#32⟩) :
    iprop(ctx m ρ K ∗ ((∃ W, owes (c : Thread nD τ) (O₀ c) W) ∗ atPos ER (barCell c) 0 ∅ 0 ∗ cred (tallyAt (barCell c) () 1) ∗ dutyTok ER (barCell c) 0 ()) ∗ xPts c (xstg m ρ c) ∗ (∃ f, x2Pts (F := F) c Finset.univ f) ∗ toward1 c ∗ R) ⊢ runs c (k0_part1 xM (Memref.isWhole_whole _) wM (Memref.isWhole_whole _) oM (Memref.isWhole_whole _) bM (Memref.isWhole_whole _) aM (Memref.isWhole_whole _)
      cc0_scratch2 cc0_scratch3 cc0_scratch4) Q := by
  rw [k0_part1_eq_skeleton]
  unfold k0_part1_skel
  refine call_deviceId c (call_rearrange m ρ c (call_barrier m ρ K c _ (dev1_eq c) (start1 m ρ K c ?_)))
  refine then_signal m ρ K c 0 (k0_cond1 c) (differs_iff c 0) _ (fun h => Fin.ext k0_dev2_eq) _ (fun h => ready_sem _ c (k0_off1_eq c) (k0_off1_inb c h)) ?_
  refine then_signal m ρ K c 1 (k0_cond2 c) (differs_iff c 1) _ (fun h => Fin.ext k0_dev3_eq) _ (fun h => ready_sem _ c (k0_off2_eq c) (k0_off2_inb c h)) ?_
  refine then_signal m ρ K c 2 (k0_cond3 c) (differs_iff c 2) _ (fun h => Fin.ext k0_dev4_eq) _ (fun h => ready_sem _ c (k0_off3_eq c) (k0_off3_inb c h)) ?_
  refine then_signal m ρ K c 3 (k0_cond4 c) (differs_iff c 3) _ (fun h => Fin.ext k0_dev5_eq) _ (fun h => ready_sem _ c (k0_off4_eq c) (k0_off4_inb c h)) ?_
  refine then_signal m ρ K c 4 (k0_cond5 c) (differs_iff c 4) _ (fun h => Fin.ext k0_dev6_eq) _ (fun h => ready_sem _ c (k0_off5_eq c) (k0_off5_inb c h)) ?_
  exact runs_pure c _ h

set_option maxHeartbeats 1000000 in
/-- The signals to the next ten devices. -/
theorem part2 (c : Dev nD) (w0 : BitVec 32) {Q : (BitVec 32) → sProp 𝕄} {R : sProp 𝕄}
    (h : ∀ r, iprop(ctx m ρ K ∗ S1 c 15 ∗ R) ⊢ Q r) :
    iprop(ctx m ρ K ∗ S1 c 5 ∗ R) ⊢ runs c (k0_part2 xM (Memref.isWhole_whole _) wM (Memref.isWhole_whole _) oM (Memref.isWhole_whole _) bM (Memref.isWhole_whole _) aM (Memref.isWhole_whole _)
      cc0_scratch2 cc0_scratch3 cc0_scratch4 c (mine c) w0) Q := by
  rw [k0_part2_eq_skeleton]
  unfold k0_part2_skel
  refine then_signal m ρ K c 5 (k0_cond6 c) (differs_iff c 5) _ (fun h => Fin.ext k0_dev7_eq) _ (fun h => ready_sem _ c (k0_off6_eq c) (k0_off6_inb c h)) ?_
  refine then_signal m ρ K c 6 (k0_cond7 c) (differs_iff c 6) _ (fun h => Fin.ext k0_dev8_eq) _ (fun h => ready_sem _ c (k0_off7_eq c) (k0_off7_inb c h)) ?_
  refine then_signal m ρ K c 7 (k0_cond8 c) (differs_iff c 7) _ (fun h => Fin.ext k0_dev9_eq) _ (fun h => ready_sem _ c (k0_off8_eq c) (k0_off8_inb c h)) ?_
  refine then_signal m ρ K c 8 (k0_cond9 c) (differs_iff c 8) _ (fun h => Fin.ext k0_dev10_eq) _ (fun h => ready_sem _ c (k0_off9_eq c) (k0_off9_inb c h)) ?_
  refine then_signal m ρ K c 9 (k0_cond10 c) (differs_iff c 9) _ (fun h => Fin.ext k0_dev11_eq) _ (fun h => ready_sem _ c (k0_off10_eq c) (k0_off10_inb c h)) ?_
  refine then_signal m ρ K c 10 (k0_cond11 c) (differs_iff c 10) _ (fun h => Fin.ext k0_dev12_eq) _ (fun h => ready_sem _ c (k0_off11_eq c) (k0_off11_inb c h)) ?_
  refine then_signal m ρ K c 11 (k0_cond12 c) (differs_iff c 11) _ (fun h => Fin.ext k0_dev13_eq) _ (fun h => ready_sem _ c (k0_off12_eq c) (k0_off12_inb c h)) ?_
  refine then_signal m ρ K c 12 (k0_cond13 c) (differs_iff c 12) _ (fun h => Fin.ext k0_dev14_eq) _ (fun h => ready_sem _ c (k0_off13_eq c) (k0_off13_inb c h)) ?_
  refine then_signal m ρ K c 13 (k0_cond14 c) (differs_iff c 13) _ (fun h => Fin.ext k0_dev15_eq) _ (fun h => ready_sem _ c (k0_off14_eq c) (k0_off14_inb c h)) ?_
  refine then_signal m ρ K c 14 (k0_cond15 c) (differs_iff c 14) _ (fun h => Fin.ext k0_dev16_eq) _ (fun h => ready_sem _ c (k0_off15_eq c) (k0_off15_inb c h)) ?_
  exact runs_pure c _ (h _)

set_option maxHeartbeats 1000000 in
/-- The signals to the next ten devices. -/
theorem part3 (c : Dev nD) (w0 : BitVec 32) {Q : (BitVec 32) → sProp 𝕄} {R : sProp 𝕄}
    (h : ∀ r, iprop(ctx m ρ K ∗ S1 c 25 ∗ R) ⊢ Q r) :
    iprop(ctx m ρ K ∗ S1 c 15 ∗ R) ⊢ runs c (k0_part3 xM (Memref.isWhole_whole _) wM (Memref.isWhole_whole _) oM (Memref.isWhole_whole _) bM (Memref.isWhole_whole _) aM (Memref.isWhole_whole _)
      cc0_scratch2 cc0_scratch3 cc0_scratch4 c (mine c) w0) Q := by
  rw [k0_part3_eq_skeleton]
  unfold k0_part3_skel
  refine then_signal m ρ K c 15 (k0_cond16 c) (differs_iff c 15) _ (fun h => Fin.ext k0_dev17_eq) _ (fun h => ready_sem _ c (k0_off16_eq c) (k0_off16_inb c h)) ?_
  refine then_signal m ρ K c 16 (k0_cond17 c) (differs_iff c 16) _ (fun h => Fin.ext k0_dev18_eq) _ (fun h => ready_sem _ c (k0_off17_eq c) (k0_off17_inb c h)) ?_
  refine then_signal m ρ K c 17 (k0_cond18 c) (differs_iff c 17) _ (fun h => Fin.ext k0_dev19_eq) _ (fun h => ready_sem _ c (k0_off18_eq c) (k0_off18_inb c h)) ?_
  refine then_signal m ρ K c 18 (k0_cond19 c) (differs_iff c 18) _ (fun h => Fin.ext k0_dev20_eq) _ (fun h => ready_sem _ c (k0_off19_eq c) (k0_off19_inb c h)) ?_
  refine then_signal m ρ K c 19 (k0_cond20 c) (differs_iff c 19) _ (fun h => Fin.ext k0_dev21_eq) _ (fun h => ready_sem _ c (k0_off20_eq c) (k0_off20_inb c h)) ?_
  refine then_signal m ρ K c 20 (k0_cond21 c) (differs_iff c 20) _ (fun h => Fin.ext k0_dev22_eq) _ (fun h => ready_sem _ c (k0_off21_eq c) (k0_off21_inb c h)) ?_
  refine then_signal m ρ K c 21 (k0_cond22 c) (differs_iff c 21) _ (fun h => Fin.ext k0_dev23_eq) _ (fun h => ready_sem _ c (k0_off22_eq c) (k0_off22_inb c h)) ?_
  refine then_signal m ρ K c 22 (k0_cond23 c) (differs_iff c 22) _ (fun h => Fin.ext k0_dev24_eq) _ (fun h => ready_sem _ c (k0_off23_eq c) (k0_off23_inb c h)) ?_
  refine then_signal m ρ K c 23 (k0_cond24 c) (differs_iff c 23) _ (fun h => Fin.ext k0_dev25_eq) _ (fun h => ready_sem _ c (k0_off24_eq c) (k0_off24_inb c h)) ?_
  refine then_signal m ρ K c 24 (k0_cond25 c) (differs_iff c 24) _ (fun h => Fin.ext k0_dev26_eq) _ (fun h => ready_sem _ c (k0_off25_eq c) (k0_off25_inb c h)) ?_
  exact runs_pure c _ (h _)

set_option maxHeartbeats 1000000 in
/-- The signals to the last seven devices, and the device's own rows into its own slot. -/
theorem part4 (c : Dev nD) (w0 : BitVec 32) {Q : (BitVec 32) → sProp 𝕄} {R : sProp 𝕄}
    (h : ∀ r, iprop(ctx m ρ K ∗ S2 m ρ c 1 ∗ x2Pts c (rowSet c) (x2Of m ρ c) ∗ asmPts c (slotSet c) (asmOf m ρ c) ∗ R) ⊢ Q r) :
    iprop(ctx m ρ K ∗ S1 c 25 ∗ x2Pts c Finset.univ (x2Of m ρ c) ∗ toward2 c ∗ R) ⊢ runs c (k0_part4 xM (Memref.isWhole_whole _) wM (Memref.isWhole_whole _) oM (Memref.isWhole_whole _) bM (Memref.isWhole_whole _) aM (Memref.isWhole_whole _)
      cc0_scratch2 cc0_scratch3 cc0_scratch4 c (mine c) w0) Q := by
  rw [k0_part4_eq_skeleton]
  unfold k0_part4_skel
  refine then_signal m ρ K c 25 (k0_cond26 c) (differs_iff c 25) _ (fun h => Fin.ext k0_dev27_eq) _ (fun h => ready_sem _ c (k0_off26_eq c) (k0_off26_inb c h)) ?_
  refine then_signal m ρ K c 26 (k0_cond27 c) (differs_iff c 26) _ (fun h => Fin.ext k0_dev28_eq) _ (fun h => ready_sem _ c (k0_off27_eq c) (k0_off27_inb c h)) ?_
  refine then_signal m ρ K c 27 (k0_cond28 c) (differs_iff c 27) _ (fun h => Fin.ext k0_dev29_eq) _ (fun h => ready_sem _ c (k0_off28_eq c) (k0_off28_inb c h)) ?_
  refine then_signal m ρ K c 28 (k0_cond29 c) (differs_iff c 28) _ (fun h => Fin.ext k0_dev30_eq) _ (fun h => ready_sem _ c (k0_off29_eq c) (k0_off29_inb c h)) ?_
  refine then_signal m ρ K c 29 (k0_cond30 c) (differs_iff c 29) _ (fun h => Fin.ext k0_dev31_eq) _ (fun h => ready_sem _ c (k0_off30_eq c) (k0_off30_inb c h)) ?_
  refine then_signal m ρ K c 30 (k0_cond31 c) (differs_iff c 30) _ (fun h => Fin.ext k0_dev32_eq) _ (fun h => ready_sem _ c (k0_off31_eq c) (k0_off31_inb c h)) ?_
  refine then_signal m ρ K c 31 (k0_cond32 c) (differs_iff c 31) _ (fun h => Fin.ext k0_dev33_eq) _ (fun h => ready_sem _ c (k0_off32_eq c) (k0_off32_inb c h)) ?_
  refine call_own m ρ K c ?_
  exact runs_pure c _ (h _)

end Cert.Gather

end
-- ==== Proof.PartsSend.lean ====
/-
# The messages

The parts of the program that wait for the other devices' slots and send them their rows, each from what it needs to what it leaves.
-/
module

public import proofs.«01_k».proof.Proof.Calls

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

set_option maxHeartbeats 1000000 in
/-- The messages to the devices 1 and 2 places ahead. -/
theorem part5 (c : Dev nD) (w0 : BitVec 32) {Q : (Σ' (v146 : BitVec 32), BitVec 32) → sProp 𝕄} {R : sProp 𝕄}
    (h : ∀ r, iprop(ctx m ρ K ∗ S2w m ρ c 3 ∗ R) ⊢ Q r) :
    iprop(ctx m ρ K ∗ S2 m ρ c 1 ∗ R) ⊢ runs c (k0_part5 xM (Memref.isWhole_whole _) wM (Memref.isWhole_whole _) oM (Memref.isWhole_whole _) bM (Memref.isWhole_whole _) aM (Memref.isWhole_whole _)
      cc0_scratch2 cc0_scratch3 cc0_scratch4 c (mine c) w0) Q := by
  rw [k0_part5_eq_skeleton]
  unfold k0_part5_skel
  refine runs_bind c (call_ready m ρ K c 1 (by decide) ?_)
  refine runs_bind c (call_send m ρ K c 1 (by decide) _ (Fin.ext (k0_dev34_eq c)) inb_S32_S1_1 ?_)
  refine runs_bind c (call_ready m ρ K c 2 (by decide) ?_)
  refine runs_bind c (call_send m ρ K c 2 (by decide) _ (Fin.ext (k0_dev35_eq c)) inb_S32_S1_2 ?_)
  refine runs_bind c (call_ready m ρ K c 3 (by decide) ?_)
  exact runs_pure c _ (h _)

set_option maxHeartbeats 1000000 in
/-- The messages to the devices 3 and 4 places ahead. -/
theorem part6 (c : Dev nD) (w0 : BitVec 32) (w1 : BitVec 32) {Q : (PUnit) → sProp 𝕄} {R : sProp 𝕄}
    (h : iprop(ctx m ρ K ∗ S2w m ρ c 5 ∗ R) ⊢ Q ⟨⟩) :
    iprop(ctx m ρ K ∗ S2w m ρ c 3 ∗ R) ⊢ runs c (k0_part6 xM (Memref.isWhole_whole _) wM (Memref.isWhole_whole _) oM (Memref.isWhole_whole _) bM (Memref.isWhole_whole _) aM (Memref.isWhole_whole _)
      cc0_scratch2 cc0_scratch3 cc0_scratch4 c (mine c) w0 w1) Q := by
  rw [k0_part6_eq_skeleton]
  unfold k0_part6_skel
  refine runs_bind c (call_send m ρ K c 3 (by decide) _ (Fin.ext (k0_dev36_eq c)) inb_S32_S1_3 ?_)
  refine runs_bind c (call_ready m ρ K c 4 (by decide) ?_)
  refine runs_bind c (call_send m ρ K c 4 (by decide) _ (Fin.ext (k0_dev37_eq c)) inb_S32_S1_4 ?_)
  refine runs_bind c (call_ready m ρ K c 5 (by decide) ?_)
  exact runs_pure c _ h

set_option maxHeartbeats 1000000 in
/-- The messages to the devices 5 and 6 places ahead. -/
theorem part7 (c : Dev nD) {Q : (PUnit) → sProp 𝕄} {R : sProp 𝕄}
    (h : iprop(ctx m ρ K ∗ S2w m ρ c 7 ∗ R) ⊢ Q ⟨⟩) :
    iprop(ctx m ρ K ∗ S2w m ρ c 5 ∗ R) ⊢ runs c (k0_part7 xM (Memref.isWhole_whole _) wM (Memref.isWhole_whole _) oM (Memref.isWhole_whole _) bM (Memref.isWhole_whole _) aM (Memref.isWhole_whole _)
      cc0_scratch2 cc0_scratch3 cc0_scratch4 c (mine c)) Q := by
  rw [k0_part7_eq_skeleton]
  unfold k0_part7_skel
  refine runs_bind c (call_send m ρ K c 5 (by decide) _ (Fin.ext (k0_dev38_eq c)) inb_S32_S1_5 ?_)
  refine runs_bind c (call_ready m ρ K c 6 (by decide) ?_)
  refine runs_bind c (call_send m ρ K c 6 (by decide) _ (Fin.ext (k0_dev39_eq c)) inb_S32_S1_6 ?_)
  refine runs_bind c (call_ready m ρ K c 7 (by decide) ?_)
  exact runs_pure c _ h

set_option maxHeartbeats 1000000 in
/-- The messages to the devices 7, 8 and 9 places ahead. -/
theorem part8 (c : Dev nD) {Q : (BitVec 32) → sProp 𝕄} {R : sProp 𝕄}
    (h : ∀ r, iprop(ctx m ρ K ∗ S2 m ρ c 10 ∗ R) ⊢ Q r) :
    iprop(ctx m ρ K ∗ S2w m ρ c 7 ∗ R) ⊢ runs c (k0_part8 xM (Memref.isWhole_whole _) wM (Memref.isWhole_whole _) oM (Memref.isWhole_whole _) bM (Memref.isWhole_whole _) aM (Memref.isWhole_whole _)
      cc0_scratch2 cc0_scratch3 cc0_scratch4 c (mine c)) Q := by
  rw [k0_part8_eq_skeleton]
  unfold k0_part8_skel
  refine runs_bind c (call_send m ρ K c 7 (by decide) _ (Fin.ext (k0_dev40_eq c)) inb_S32_S1_7 ?_)
  refine runs_bind c (call_ready m ρ K c 8 (by decide) ?_)
  refine runs_bind c (call_send m ρ K c 8 (by decide) _ (Fin.ext (k0_dev41_eq c)) inb_S32_S1_8 ?_)
  refine runs_bind c (call_ready m ρ K c 9 (by decide) ?_)
  refine runs_bind c (call_send m ρ K c 9 (by decide) _ (Fin.ext (k0_dev42_eq c)) inb_S32_S1_9 ?_)
  exact runs_pure c _ (h _)

set_option maxHeartbeats 1000000 in
/-- The messages to the devices 10 and 11 places ahead. -/
theorem part9 (c : Dev nD) (w0 : BitVec 32) {Q : (Σ' (v272 : BitVec 32), BitVec 32) → sProp 𝕄} {R : sProp 𝕄}
    (h : ∀ r, iprop(ctx m ρ K ∗ S2w m ρ c 12 ∗ R) ⊢ Q r) :
    iprop(ctx m ρ K ∗ S2 m ρ c 10 ∗ R) ⊢ runs c (k0_part9 xM (Memref.isWhole_whole _) wM (Memref.isWhole_whole _) oM (Memref.isWhole_whole _) bM (Memref.isWhole_whole _) aM (Memref.isWhole_whole _)
      cc0_scratch2 cc0_scratch3 cc0_scratch4 c (mine c) w0) Q := by
  rw [k0_part9_eq_skeleton]
  unfold k0_part9_skel
  refine runs_bind c (call_ready m ρ K c 10 (by decide) ?_)
  refine runs_bind c (call_send m ρ K c 10 (by decide) _ (Fin.ext (k0_dev43_eq c)) inb_S32_S1_10 ?_)
  refine runs_bind c (call_ready m ρ K c 11 (by decide) ?_)
  refine runs_bind c (call_send m ρ K c 11 (by decide) _ (Fin.ext (k0_dev44_eq c)) inb_S32_S1_11 ?_)
  refine runs_bind c (call_ready m ρ K c 12 (by decide) ?_)
  exact runs_pure c _ (h _)

set_option maxHeartbeats 1000000 in
/-- The messages to the devices 12 and 13 places ahead. -/
theorem part10 (c : Dev nD) (w0 : BitVec 32) (w1 : BitVec 32) {Q : (PUnit) → sProp 𝕄} {R : sProp 𝕄}
    (h : iprop(ctx m ρ K ∗ S2w m ρ c 14 ∗ R) ⊢ Q ⟨⟩) :
    iprop(ctx m ρ K ∗ S2w m ρ c 12 ∗ R) ⊢ runs c (k0_part10 xM (Memref.isWhole_whole _) wM (Memref.isWhole_whole _) oM (Memref.isWhole_whole _) bM (Memref.isWhole_whole _) aM (Memref.isWhole_whole _)
      cc0_scratch2 cc0_scratch3 cc0_scratch4 c (mine c) w0 w1) Q := by
  rw [k0_part10_eq_skeleton]
  unfold k0_part10_skel
  refine runs_bind c (call_send m ρ K c 12 (by decide) _ (Fin.ext (k0_dev45_eq c)) inb_S32_S1_12 ?_)
  refine runs_bind c (call_ready m ρ K c 13 (by decide) ?_)
  refine runs_bind c (call_send m ρ K c 13 (by decide) _ (Fin.ext (k0_dev46_eq c)) inb_S32_S1_13 ?_)
  refine runs_bind c (call_ready m ρ K c 14 (by decide) ?_)
  exact runs_pure c _ h

set_option maxHeartbeats 1000000 in
/-- The messages to the devices 14 and 15 places ahead. -/
theorem part11 (c : Dev nD) {Q : (PUnit) → sProp 𝕄} {R : sProp 𝕄}
    (h : iprop(ctx m ρ K ∗ S2w m ρ c 16 ∗ R) ⊢ Q ⟨⟩) :
    iprop(ctx m ρ K ∗ S2w m ρ c 14 ∗ R) ⊢ runs c (k0_part11 xM (Memref.isWhole_whole _) wM (Memref.isWhole_whole _) oM (Memref.isWhole_whole _) bM (Memref.isWhole_whole _) aM (Memref.isWhole_whole _)
      cc0_scratch2 cc0_scratch3 cc0_scratch4 c (mine c)) Q := by
  rw [k0_part11_eq_skeleton]
  unfold k0_part11_skel
  refine runs_bind c (call_send m ρ K c 14 (by decide) _ (Fin.ext (k0_dev47_eq c)) inb_S32_S1_14 ?_)
  refine runs_bind c (call_ready m ρ K c 15 (by decide) ?_)
  refine runs_bind c (call_send m ρ K c 15 (by decide) _ (Fin.ext (k0_dev48_eq c)) inb_S32_S1_15 ?_)
  refine runs_bind c (call_ready m ρ K c 16 (by decide) ?_)
  exact runs_pure c _ h

set_option maxHeartbeats 1000000 in
/-- The messages to the devices 16, 17 and 18 places ahead. -/
theorem part12 (c : Dev nD) {Q : (BitVec 32) → sProp 𝕄} {R : sProp 𝕄}
    (h : ∀ r, iprop(ctx m ρ K ∗ S2 m ρ c 19 ∗ R) ⊢ Q r) :
    iprop(ctx m ρ K ∗ S2w m ρ c 16 ∗ R) ⊢ runs c (k0_part12 xM (Memref.isWhole_whole _) wM (Memref.isWhole_whole _) oM (Memref.isWhole_whole _) bM (Memref.isWhole_whole _) aM (Memref.isWhole_whole _)
      cc0_scratch2 cc0_scratch3 cc0_scratch4 c (mine c)) Q := by
  rw [k0_part12_eq_skeleton]
  unfold k0_part12_skel
  refine runs_bind c (call_send m ρ K c 16 (by decide) _ (Fin.ext (k0_dev49_eq c)) inb_S32_S1_16 ?_)
  refine runs_bind c (call_ready m ρ K c 17 (by decide) ?_)
  refine runs_bind c (call_send m ρ K c 17 (by decide) _ (Fin.ext (k0_dev50_eq c)) inb_S32_S1_17 ?_)
  refine runs_bind c (call_ready m ρ K c 18 (by decide) ?_)
  refine runs_bind c (call_send m ρ K c 18 (by decide) _ (Fin.ext (k0_dev51_eq c)) inb_S32_S1_18 ?_)
  exact runs_pure c _ (h _)

set_option maxHeartbeats 1000000 in
/-- The messages to the devices 19 and 20 places ahead. -/
theorem part13 (c : Dev nD) (w0 : BitVec 32) {Q : (BitVec 32) → sProp 𝕄} {R : sProp 𝕄}
    (h : ∀ r, iprop(ctx m ρ K ∗ S2 m ρ c 21 ∗ R) ⊢ Q r) :
    iprop(ctx m ρ K ∗ S2 m ρ c 19 ∗ R) ⊢ runs c (k0_part13 xM (Memref.isWhole_whole _) wM (Memref.isWhole_whole _) oM (Memref.isWhole_whole _) bM (Memref.isWhole_whole _) aM (Memref.isWhole_whole _)
      cc0_scratch2 cc0_scratch3 cc0_scratch4 c (mine c) w0) Q := by
  rw [k0_part13_eq_skeleton]
  unfold k0_part13_skel
  refine runs_bind c (call_ready m ρ K c 19 (by decide) ?_)
  refine runs_bind c (call_send m ρ K c 19 (by decide) _ (Fin.ext (k0_dev52_eq c)) inb_S32_S1_19 ?_)
  refine runs_bind c (call_ready m ρ K c 20 (by decide) ?_)
  refine runs_bind c (call_send m ρ K c 20 (by decide) _ (Fin.ext (k0_dev53_eq c)) inb_S32_S1_20 ?_)
  exact runs_pure c _ (h _)

set_option maxHeartbeats 1000000 in
/-- The messages to the devices 21 and 22 places ahead. -/
theorem part14 (c : Dev nD) (w0 : BitVec 32) {Q : (Σ' (v426 : BitVec 32), BitVec 32) → sProp 𝕄} {R : sProp 𝕄}
    (h : ∀ r, iprop(ctx m ρ K ∗ S2w m ρ c 23 ∗ R) ⊢ Q r) :
    iprop(ctx m ρ K ∗ S2 m ρ c 21 ∗ R) ⊢ runs c (k0_part14 xM (Memref.isWhole_whole _) wM (Memref.isWhole_whole _) oM (Memref.isWhole_whole _) bM (Memref.isWhole_whole _) aM (Memref.isWhole_whole _)
      cc0_scratch2 cc0_scratch3 cc0_scratch4 c (mine c) w0) Q := by
  rw [k0_part14_eq_skeleton]
  unfold k0_part14_skel
  refine runs_bind c (call_ready m ρ K c 21 (by decide) ?_)
  refine runs_bind c (call_send m ρ K c 21 (by decide) _ (Fin.ext (k0_dev54_eq c)) inb_S32_S1_21 ?_)
  refine runs_bind c (call_ready m ρ K c 22 (by decide) ?_)
  refine runs_bind c (call_send m ρ K c 22 (by decide) _ (Fin.ext (k0_dev55_eq c)) inb_S32_S1_22 ?_)
  refine runs_bind c (call_ready m ρ K c 23 (by decide) ?_)
  exact runs_pure c _ (h _)

set_option maxHeartbeats 1000000 in
/-- The messages to the devices 23 and 24 places ahead. -/
theorem part15 (c : Dev nD) (w0 : BitVec 32) (w1 : BitVec 32) {Q : (PUnit) → sProp 𝕄} {R : sProp 𝕄}
    (h : iprop(ctx m ρ K ∗ S2w m ρ c 25 ∗ R) ⊢ Q ⟨⟩) :
    iprop(ctx m ρ K ∗ S2w m ρ c 23 ∗ R) ⊢ runs c (k0_part15 xM (Memref.isWhole_whole _) wM (Memref.isWhole_whole _) oM (Memref.isWhole_whole _) bM (Memref.isWhole_whole _) aM (Memref.isWhole_whole _)
      cc0_scratch2 cc0_scratch3 cc0_scratch4 c (mine c) w0 w1) Q := by
  rw [k0_part15_eq_skeleton]
  unfold k0_part15_skel
  refine runs_bind c (call_send m ρ K c 23 (by decide) _ (Fin.ext (k0_dev56_eq c)) inb_S32_S1_23 ?_)
  refine runs_bind c (call_ready m ρ K c 24 (by decide) ?_)
  refine runs_bind c (call_send m ρ K c 24 (by decide) _ (Fin.ext (k0_dev57_eq c)) inb_S32_S1_24 ?_)
  refine runs_bind c (call_ready m ρ K c 25 (by decide) ?_)
  exact runs_pure c _ h

set_option maxHeartbeats 1000000 in
/-- The messages to the devices 25 and 26 places ahead. -/
theorem part16 (c : Dev nD) {Q : (PUnit) → sProp 𝕄} {R : sProp 𝕄}
    (h : iprop(ctx m ρ K ∗ S2w m ρ c 27 ∗ R) ⊢ Q ⟨⟩) :
    iprop(ctx m ρ K ∗ S2w m ρ c 25 ∗ R) ⊢ runs c (k0_part16 xM (Memref.isWhole_whole _) wM (Memref.isWhole_whole _) oM (Memref.isWhole_whole _) bM (Memref.isWhole_whole _) aM (Memref.isWhole_whole _)
      cc0_scratch2 cc0_scratch3 cc0_scratch4 c (mine c)) Q := by
  rw [k0_part16_eq_skeleton]
  unfold k0_part16_skel
  refine runs_bind c (call_send m ρ K c 25 (by decide) _ (Fin.ext (k0_dev58_eq c)) inb_S32_S1_25 ?_)
  refine runs_bind c (call_ready m ρ K c 26 (by decide) ?_)
  refine runs_bind c (call_send m ρ K c 26 (by decide) _ (Fin.ext (k0_dev59_eq c)) inb_S32_S1_26 ?_)
  refine runs_bind c (call_ready m ρ K c 27 (by decide) ?_)
  exact runs_pure c _ h

set_option maxHeartbeats 1000000 in
/-- The messages to the devices 27, 28 and 29 places ahead. -/
theorem part17 (c : Dev nD) {Q : (BitVec 32) → sProp 𝕄} {R : sProp 𝕄}
    (h : ∀ r, iprop(ctx m ρ K ∗ S2 m ρ c 30 ∗ R) ⊢ Q r) :
    iprop(ctx m ρ K ∗ S2w m ρ c 27 ∗ R) ⊢ runs c (k0_part17 xM (Memref.isWhole_whole _) wM (Memref.isWhole_whole _) oM (Memref.isWhole_whole _) bM (Memref.isWhole_whole _) aM (Memref.isWhole_whole _)
      cc0_scratch2 cc0_scratch3 cc0_scratch4 c (mine c)) Q := by
  rw [k0_part17_eq_skeleton]
  unfold k0_part17_skel
  refine runs_bind c (call_send m ρ K c 27 (by decide) _ (Fin.ext (k0_dev60_eq c)) inb_S32_S1_27 ?_)
  refine runs_bind c (call_ready m ρ K c 28 (by decide) ?_)
  refine runs_bind c (call_send m ρ K c 28 (by decide) _ (Fin.ext (k0_dev61_eq c)) inb_S32_S1_28 ?_)
  refine runs_bind c (call_ready m ρ K c 29 (by decide) ?_)
  refine runs_bind c (call_send m ρ K c 29 (by decide) _ (Fin.ext (k0_dev62_eq c)) inb_S32_S1_29 ?_)
  exact runs_pure c _ (h _)

end Cert.Gather

end
-- ==== Proof.PartsReceive.lean ====
/-
# The products

The parts of the program that wait for the messages and multiply, each from what it needs to what it leaves.
-/
module

public import proofs.«01_k».proof.Proof.Calls

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

set_option maxHeartbeats 1000000 in
/-- The last two messages, and the wait for device 0. -/
theorem part18 (c : Dev nD) (w0 : BitVec 32) {Q : (Σ' (v555 : BitVec 32), BitVec 32) → sProp 𝕄} {R : sProp 𝕄}
    (h : iprop(ctx m ρ K ∗ S3 m ρ c 1 ∗ over3 m ρ c ∗ R) ⊢ Q ⟨differs c 1#32, 0#32⟩) :
    iprop(ctx m ρ K ∗ S2 m ρ c 30 ∗ x2Pts c (rowSet c) (x2Of m ρ c) ∗ asmPts c (slotSet c) (asmOf m ρ c) ∗ toward3 c ∗ R) ⊢ runs c (k0_part18 xM (Memref.isWhole_whole _) wM (Memref.isWhole_whole _) oM (Memref.isWhole_whole _) bM (Memref.isWhole_whole _) aM (Memref.isWhole_whole _)
      cc0_scratch2 cc0_scratch3 cc0_scratch4 c (mine c) w0) Q := by
  rw [k0_part18_eq_skeleton]
  unfold k0_part18_skel
  refine runs_bind c (call_ready m ρ K c 30 (by decide) ?_)
  refine runs_bind c (call_send m ρ K c 30 (by decide) _ (Fin.ext (k0_dev63_eq c)) inb_S32_S1_30 ?_)
  refine runs_bind c (call_ready m ρ K c 31 (by decide) ?_)
  refine runs_bind c (call_send m ρ K c 31 (by decide) _ (Fin.ext (k0_dev64_eq c)) inb_S32_S1_31 ?_)
  refine to_third m ρ K c ?_
  refine then_recv m ρ K c 0 _ rfl inb_S32_S1_0 ?_
  exact runs_pure c _ h

set_option maxHeartbeats 1000000 in
/-- The waits for the messages of devices 1 to 7, and the first product. -/
theorem part19 (c : Dev nD) (f : S64x2048.Idx → Elt F .f32) {Q : (BitVec 32) → sProp 𝕄} {R : sProp 𝕄}
    (h : iprop(ctx m ρ K ∗ S3 m ρ c 8 ∗ wo m ρ c (acc0 m ρ c) ∗ R) ⊢ Q 8#32) :
    iprop(ctx m ρ K ∗ S3 m ρ c 1 ∗ wo m ρ c f ∗ R) ⊢ runs c (k0_part19 xM (Memref.isWhole_whole _) wM (Memref.isWhole_whole _) oM (Memref.isWhole_whole _) bM (Memref.isWhole_whole _) aM (Memref.isWhole_whole _)
      cc0_scratch2 cc0_scratch3 cc0_scratch4 (mine c) (differs c 1#32) 0#32) Q := by
  rw [k0_part19_eq_skeleton]
  unfold k0_part19_skel
  refine then_recv m ρ K c 1 _ rfl inb_S32_S1_1 ?_
  refine then_recv m ρ K c 2 _ rfl inb_S32_S1_2 ?_
  refine then_recv m ρ K c 3 _ rfl inb_S32_S1_3 ?_
  refine then_recv m ρ K c 4 _ rfl inb_S32_S1_4 ?_
  refine then_recv m ρ K c 5 _ rfl inb_S32_S1_5 ?_
  refine then_recv m ρ K c 6 _ rfl inb_S32_S1_6 ?_
  refine then_recv m ρ K c 7 _ rfl inb_S32_S1_7 ?_
  refine runs_bind c (load_slots m ρ K c 0 8 rfl ?_)
  refine runs_bind c (load_rows m ρ c f ?_)
  refine runs_bind c (load_o m ρ c f ?_)
  refine runs_bind c (store_o m ρ c f (acc0 m ρ c) ?_)
  exact runs_pure c _ h

set_option maxHeartbeats 1000000 in
/-- The waits for the messages of devices 8 to 15, and their eight slots read. -/
theorem part20 (c : Dev nD) {Q : (FVec F S64x512 .f32) → sProp 𝕄} {R : sProp 𝕄}
    (h : iprop(ctx m ρ K ∗ S3 m ρ c 16 ∗ R) ⊢ Q (k0_pay4 (slots8 m ρ c ![8, 0, 0] inb_S32x32x128_S8x32x128_8_0_0))) :
    iprop(ctx m ρ K ∗ S3 m ρ c 8 ∗ R) ⊢ runs c (k0_part20 xM (Memref.isWhole_whole _) wM (Memref.isWhole_whole _) oM (Memref.isWhole_whole _) bM (Memref.isWhole_whole _) aM (Memref.isWhole_whole _)
      cc0_scratch2 cc0_scratch3 cc0_scratch4 (mine c) 8#32) Q := by
  rw [k0_part20_eq_skeleton]
  unfold k0_part20_skel
  refine then_recv m ρ K c 8 _ rfl inb_S32_S1_8 ?_
  refine then_recv m ρ K c 9 _ rfl inb_S32_S1_9 ?_
  refine then_recv m ρ K c 10 _ rfl inb_S32_S1_10 ?_
  refine then_recv m ρ K c 11 _ rfl inb_S32_S1_11 ?_
  refine then_recv m ρ K c 12 _ rfl inb_S32_S1_12 ?_
  refine then_recv m ρ K c 13 _ rfl inb_S32_S1_13 ?_
  refine then_recv m ρ K c 14 _ rfl inb_S32_S1_14 ?_
  refine then_recv m ρ K c 15 _ rfl inb_S32_S1_15 ?_
  refine runs_bind c (load_slots m ρ K c 8 16 rfl ?_)
  exact runs_pure c _ h

set_option maxHeartbeats 1000000 in
/-- The second product, and the waits for the messages of devices 16 to 22. -/
theorem part21 (c : Dev nD) {Q : (BitVec 1) → sProp 𝕄} {R : sProp 𝕄}
    (h : iprop(ctx m ρ K ∗ S3 m ρ c 23 ∗ wo m ρ c (acc1 m ρ c) ∗ R) ⊢ Q (Scalar.cmpi .ne (differs c 23#32) 0#32)) :
    iprop(ctx m ρ K ∗ S3 m ρ c 16 ∗ wo m ρ c (acc0 m ρ c) ∗ R) ⊢ runs c (k0_part21 xM (Memref.isWhole_whole _) wM (Memref.isWhole_whole _) oM (Memref.isWhole_whole _) bM (Memref.isWhole_whole _) aM (Memref.isWhole_whole _)
      cc0_scratch2 cc0_scratch3 cc0_scratch4 (mine c) (k0_pay4 (slots8 m ρ c ![8, 0, 0] inb_S32x32x128_S8x32x128_8_0_0))) Q := by
  rw [k0_part21_eq_skeleton]
  unfold k0_part21_skel
  refine runs_bind c (load_rows m ρ c (acc0 m ρ c) ?_)
  refine runs_bind c (load_o m ρ c (acc0 m ρ c) ?_)
  refine runs_bind c (load_o m ρ c (acc0 m ρ c) ?_)
  refine runs_bind c (store_o m ρ c (acc0 m ρ c) (acc1 m ρ c) ?_)
  refine then_recv m ρ K c 16 _ rfl inb_S32_S1_16 ?_
  refine then_recv m ρ K c 17 _ rfl inb_S32_S1_17 ?_
  refine then_recv m ρ K c 18 _ rfl inb_S32_S1_18 ?_
  refine then_recv m ρ K c 19 _ rfl inb_S32_S1_19 ?_
  refine then_recv m ρ K c 20 _ rfl inb_S32_S1_20 ?_
  refine then_recv m ρ K c 21 _ rfl inb_S32_S1_21 ?_
  refine then_recv m ρ K c 22 _ rfl inb_S32_S1_22 ?_
  exact runs_pure c _ h

set_option maxHeartbeats 1000000 in
/-- The wait for the message of device 23, the third product, and the waits for devices 24 to 28. -/
theorem part22 (c : Dev nD) {Q : (BitVec 32) → sProp 𝕄} {R : sProp 𝕄}
    (h : iprop(ctx m ρ K ∗ S3 m ρ c 29 ∗ wo m ρ c (acc2 m ρ c) ∗ R) ⊢ Q (differs c 29#32)) :
    iprop(ctx m ρ K ∗ S3 m ρ c 23 ∗ wo m ρ c (acc1 m ρ c) ∗ R) ⊢ runs c (k0_part22 xM (Memref.isWhole_whole _) wM (Memref.isWhole_whole _) oM (Memref.isWhole_whole _) bM (Memref.isWhole_whole _) aM (Memref.isWhole_whole _)
      cc0_scratch2 cc0_scratch3 cc0_scratch4 (mine c) (Scalar.cmpi .ne (differs c 23#32) 0#32)) Q := by
  rw [k0_part22_eq_skeleton]
  unfold k0_part22_skel
  refine then_recv m ρ K c 23 _ rfl inb_S32_S1_23 ?_
  refine runs_bind c (load_slots m ρ K c 16 24 rfl ?_)
  refine runs_bind c (load_rows m ρ c (acc1 m ρ c) ?_)
  refine runs_bind c (load_o m ρ c (acc1 m ρ c) ?_)
  refine runs_bind c (load_o m ρ c (acc1 m ρ c) ?_)
  refine runs_bind c (store_o m ρ c (acc1 m ρ c) (acc2 m ρ c) ?_)
  refine then_recv m ρ K c 24 _ rfl inb_S32_S1_24 ?_
  refine then_recv m ρ K c 25 _ rfl inb_S32_S1_25 ?_
  refine then_recv m ρ K c 26 _ rfl inb_S32_S1_26 ?_
  refine then_recv m ρ K c 27 _ rfl inb_S32_S1_27 ?_
  refine then_recv m ρ K c 28 _ rfl inb_S32_S1_28 ?_
  exact runs_pure c _ h

set_option maxHeartbeats 1000000 in
/-- The waits for the messages of devices 29 to 31, the last product, and the wait for the first message to have left. -/
theorem part23 (c : Dev nD) {Q : (BitVec 32) → sProp 𝕄} {R : sProp 𝕄}
    (h : ∀ r, iprop(ctx m ρ K ∗ S4 m ρ c 2 ∗ wo m ρ c (acc3 m ρ c) ∗ left2 (F := F) c ∗ left3 m ρ c ∗ R) ⊢ Q r) :
    iprop(ctx m ρ K ∗ S3 m ρ c 29 ∗ wo m ρ c (acc2 m ρ c) ∗ over3 m ρ c ∗ toward4 c ∗ R) ⊢ runs c (k0_part23 xM (Memref.isWhole_whole _) wM (Memref.isWhole_whole _) oM (Memref.isWhole_whole _) bM (Memref.isWhole_whole _) aM (Memref.isWhole_whole _)
      cc0_scratch2 cc0_scratch3 cc0_scratch4 c (mine c) (differs c 29#32)) Q := by
  rw [k0_part23_eq_skeleton]
  unfold k0_part23_skel
  refine then_recv m ρ K c 29 _ rfl inb_S32_S1_29 ?_
  refine then_recv m ρ K c 30 _ rfl inb_S32_S1_30 ?_
  refine then_recv m ρ K c 31 _ rfl inb_S32_S1_31 ?_
  refine runs_bind c (load_slots m ρ K c 24 32 rfl ?_)
  refine runs_bind c (load_rows m ρ c (acc2 m ρ c) ?_)
  refine runs_bind c (load_o m ρ c (acc2 m ρ c) ?_)
  refine runs_bind c (load_o m ρ c (acc2 m ρ c) ?_)
  refine runs_bind c (store_o m ρ c (acc2 m ρ c) (acc3 m ρ c) ?_)
  refine to_fourth m ρ K c ?_
  refine runs_bind c (call_left m ρ K c 1 (by decide) inb_S32_S1_1 ?_)
  exact runs_pure c _ (h _)

end Cert.Gather

end
-- ==== Proof.PartsLeft.lean ====
/-
# The end

The parts of the program that wait for the messages to have left, each from what it needs to what it leaves.
-/
module

public import proofs.«01_k».proof.Proof.Calls

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

set_option maxHeartbeats 1000000 in
/-- The waits for the messages to the devices 2 to 4 places ahead to have left. -/
theorem part24 (c : Dev nD) (w0 : BitVec 32) {Q : (PUnit) → sProp 𝕄} {R : sProp 𝕄}
    (h : iprop(ctx m ρ K ∗ S4 m ρ c 5 ∗ R) ⊢ Q ⟨⟩) :
    iprop(ctx m ρ K ∗ S4 m ρ c 2 ∗ R) ⊢ runs c (k0_part24 xM (Memref.isWhole_whole _) wM (Memref.isWhole_whole _) oM (Memref.isWhole_whole _) bM (Memref.isWhole_whole _) aM (Memref.isWhole_whole _)
      cc0_scratch2 cc0_scratch3 cc0_scratch4 c (mine c) w0) Q := by
  rw [k0_part24_eq_skeleton]
  unfold k0_part24_skel
  refine runs_bind c (call_left m ρ K c 2 (by decide) inb_S32_S1_2 ?_)
  refine runs_bind c (call_left m ρ K c 3 (by decide) inb_S32_S1_3 ?_)
  refine runs_bind c (call_left m ρ K c 4 (by decide) inb_S32_S1_4 ?_)
  exact runs_pure c _ h

set_option maxHeartbeats 1000000 in
/-- The waits for the messages to the devices 5 to 8 places ahead to have left. -/
theorem part25 (c : Dev nD) {Q : (Σ' (v768 : BitVec 32), BitVec 32) → sProp 𝕄} {R : sProp 𝕄}
    (h : ∀ r, iprop(ctx m ρ K ∗ S4 m ρ c 9 ∗ R) ⊢ Q r) :
    iprop(ctx m ρ K ∗ S4 m ρ c 5 ∗ R) ⊢ runs c (k0_part25 xM (Memref.isWhole_whole _) wM (Memref.isWhole_whole _) oM (Memref.isWhole_whole _) bM (Memref.isWhole_whole _) aM (Memref.isWhole_whole _)
      cc0_scratch2 cc0_scratch3 cc0_scratch4 c (mine c)) Q := by
  rw [k0_part25_eq_skeleton]
  unfold k0_part25_skel
  refine runs_bind c (call_left m ρ K c 5 (by decide) inb_S32_S1_5 ?_)
  refine runs_bind c (call_left m ρ K c 6 (by decide) inb_S32_S1_6 ?_)
  refine runs_bind c (call_left m ρ K c 7 (by decide) inb_S32_S1_7 ?_)
  refine runs_bind c (call_left m ρ K c 8 (by decide) inb_S32_S1_8 ?_)
  exact runs_pure c _ (h _)

set_option maxHeartbeats 1000000 in
/-- The waits for the messages to the devices 9 to 11 places ahead to have left. -/
theorem part26 (c : Dev nD) (w0 : BitVec 32) (w1 : BitVec 32) {Q : (PUnit) → sProp 𝕄} {R : sProp 𝕄}
    (h : iprop(ctx m ρ K ∗ S4 m ρ c 12 ∗ R) ⊢ Q ⟨⟩) :
    iprop(ctx m ρ K ∗ S4 m ρ c 9 ∗ R) ⊢ runs c (k0_part26 xM (Memref.isWhole_whole _) wM (Memref.isWhole_whole _) oM (Memref.isWhole_whole _) bM (Memref.isWhole_whole _) aM (Memref.isWhole_whole _)
      cc0_scratch2 cc0_scratch3 cc0_scratch4 c (mine c) w0 w1) Q := by
  rw [k0_part26_eq_skeleton]
  unfold k0_part26_skel
  refine runs_bind c (call_left m ρ K c 9 (by decide) inb_S32_S1_9 ?_)
  refine runs_bind c (call_left m ρ K c 10 (by decide) inb_S32_S1_10 ?_)
  refine runs_bind c (call_left m ρ K c 11 (by decide) inb_S32_S1_11 ?_)
  exact runs_pure c _ h

set_option maxHeartbeats 1000000 in
/-- The waits for the messages to the devices 12 to 15 places ahead to have left. -/
theorem part27 (c : Dev nD) {Q : (BitVec 32) → sProp 𝕄} {R : sProp 𝕄}
    (h : ∀ r, iprop(ctx m ρ K ∗ S4 m ρ c 16 ∗ R) ⊢ Q r) :
    iprop(ctx m ρ K ∗ S4 m ρ c 12 ∗ R) ⊢ runs c (k0_part27 xM (Memref.isWhole_whole _) wM (Memref.isWhole_whole _) oM (Memref.isWhole_whole _) bM (Memref.isWhole_whole _) aM (Memref.isWhole_whole _)
      cc0_scratch2 cc0_scratch3 cc0_scratch4 c (mine c)) Q := by
  rw [k0_part27_eq_skeleton]
  unfold k0_part27_skel
  refine runs_bind c (call_left m ρ K c 12 (by decide) inb_S32_S1_12 ?_)
  refine runs_bind c (call_left m ρ K c 13 (by decide) inb_S32_S1_13 ?_)
  refine runs_bind c (call_left m ρ K c 14 (by decide) inb_S32_S1_14 ?_)
  refine runs_bind c (call_left m ρ K c 15 (by decide) inb_S32_S1_15 ?_)
  exact runs_pure c _ (h _)

set_option maxHeartbeats 1000000 in
/-- The waits for the messages to the devices 16 to 18 places ahead to have left. -/
theorem part28 (c : Dev nD) (w0 : BitVec 32) {Q : (PUnit) → sProp 𝕄} {R : sProp 𝕄}
    (h : iprop(ctx m ρ K ∗ S4 m ρ c 19 ∗ R) ⊢ Q ⟨⟩) :
    iprop(ctx m ρ K ∗ S4 m ρ c 16 ∗ R) ⊢ runs c (k0_part28 xM (Memref.isWhole_whole _) wM (Memref.isWhole_whole _) oM (Memref.isWhole_whole _) bM (Memref.isWhole_whole _) aM (Memref.isWhole_whole _)
      cc0_scratch2 cc0_scratch3 cc0_scratch4 c (mine c) w0) Q := by
  rw [k0_part28_eq_skeleton]
  unfold k0_part28_skel
  refine runs_bind c (call_left m ρ K c 16 (by decide) inb_S32_S1_16 ?_)
  refine runs_bind c (call_left m ρ K c 17 (by decide) inb_S32_S1_17 ?_)
  refine runs_bind c (call_left m ρ K c 18 (by decide) inb_S32_S1_18 ?_)
  exact runs_pure c _ h

set_option maxHeartbeats 1000000 in
/-- The waits for the messages to the devices 19 to 22 places ahead to have left. -/
theorem part29 (c : Dev nD) {Q : (Σ' (v881 : BitVec 32), BitVec 32) → sProp 𝕄} {R : sProp 𝕄}
    (h : ∀ r, iprop(ctx m ρ K ∗ S4 m ρ c 23 ∗ R) ⊢ Q r) :
    iprop(ctx m ρ K ∗ S4 m ρ c 19 ∗ R) ⊢ runs c (k0_part29 xM (Memref.isWhole_whole _) wM (Memref.isWhole_whole _) oM (Memref.isWhole_whole _) bM (Memref.isWhole_whole _) aM (Memref.isWhole_whole _)
      cc0_scratch2 cc0_scratch3 cc0_scratch4 c (mine c)) Q := by
  rw [k0_part29_eq_skeleton]
  unfold k0_part29_skel
  refine runs_bind c (call_left m ρ K c 19 (by decide) inb_S32_S1_19 ?_)
  refine runs_bind c (call_left m ρ K c 20 (by decide) inb_S32_S1_20 ?_)
  refine runs_bind c (call_left m ρ K c 21 (by decide) inb_S32_S1_21 ?_)
  refine runs_bind c (call_left m ρ K c 22 (by decide) inb_S32_S1_22 ?_)
  exact runs_pure c _ (h _)

set_option maxHeartbeats 1000000 in
/-- The waits for the messages to the devices 23 to 25 places ahead to have left. -/
theorem part30 (c : Dev nD) (w0 : BitVec 32) (w1 : BitVec 32) {Q : (PUnit) → sProp 𝕄} {R : sProp 𝕄}
    (h : iprop(ctx m ρ K ∗ S4 m ρ c 26 ∗ R) ⊢ Q ⟨⟩) :
    iprop(ctx m ρ K ∗ S4 m ρ c 23 ∗ R) ⊢ runs c (k0_part30 xM (Memref.isWhole_whole _) wM (Memref.isWhole_whole _) oM (Memref.isWhole_whole _) bM (Memref.isWhole_whole _) aM (Memref.isWhole_whole _)
      cc0_scratch2 cc0_scratch3 cc0_scratch4 c (mine c) w0 w1) Q := by
  rw [k0_part30_eq_skeleton]
  unfold k0_part30_skel
  refine runs_bind c (call_left m ρ K c 23 (by decide) inb_S32_S1_23 ?_)
  refine runs_bind c (call_left m ρ K c 24 (by decide) inb_S32_S1_24 ?_)
  refine runs_bind c (call_left m ρ K c 25 (by decide) inb_S32_S1_25 ?_)
  exact runs_pure c _ h

set_option maxHeartbeats 1000000 in
/-- The waits for the messages to the devices 26 to 29 places ahead to have left. -/
theorem part31 (c : Dev nD) {Q : (PUnit) → sProp 𝕄} {R : sProp 𝕄}
    (h : iprop(ctx m ρ K ∗ S4 m ρ c 30 ∗ R) ⊢ Q ⟨⟩) :
    iprop(ctx m ρ K ∗ S4 m ρ c 26 ∗ R) ⊢ runs c (k0_part31 xM (Memref.isWhole_whole _) wM (Memref.isWhole_whole _) oM (Memref.isWhole_whole _) bM (Memref.isWhole_whole _) aM (Memref.isWhole_whole _)
      cc0_scratch2 cc0_scratch3 cc0_scratch4 c (mine c)) Q := by
  rw [k0_part31_eq_skeleton]
  unfold k0_part31_skel
  refine runs_bind c (call_left m ρ K c 26 (by decide) inb_S32_S1_26 ?_)
  refine runs_bind c (call_left m ρ K c 27 (by decide) inb_S32_S1_27 ?_)
  refine runs_bind c (call_left m ρ K c 28 (by decide) inb_S32_S1_28 ?_)
  refine runs_bind c (call_left m ρ K c 29 (by decide) inb_S32_S1_29 ?_)
  exact runs_pure c _ h

end Cert.Gather

end
-- ==== Proof.Body.lean ====
/-
# The body, on one device

The program of device `c` from start to end: from the cells, the credit and the tokens that the launch deals it to the
filled buffers, the result and the closed cells.
-/
module

public import proofs.«01_k».proof.Proof.PartsSignal
public import proofs.«01_k».proof.Proof.PartsSend
public import proofs.«01_k».proof.Proof.PartsReceive
public import proofs.«01_k».proof.Proof.PartsLeft

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-- What the body leaves: it owes nothing, its buffers are filled, its result is there, and every cell of its own is closed. -/
def bodyEnd (c : Dev nD) : sProp 𝕄 :=
  iprop((∃ W, owes (c : Thread nD τ) 0 W) ∗ xPts c (xstg m ρ c) ∗ wo m ρ c (acc3 m ρ c)
    ∗ x2Pts c Finset.univ (x2Of m ρ c) ∗ asmPts c Finset.univ (asmOf m ρ c)
    ∗ semVal (barCell c) 0 ∗ (bigSep Finset.univ fun k => semVal (readyCell c k) 0) ∗ (bigSep Finset.univ fun k => semVal (sendCell c k) 0)
    ∗ bigSep Finset.univ fun k => semVal (recvCell c k) 0)

/-- The orders in which the parts of the program want their resources. -/
theorem arrange1 {A B C D E G H I X : sProp 𝕄} (h : iprop(A ∗ B ∗ C ∗ E ∗ G ∗ H ∗ I ∗ D) ⊢ X) : iprop(A ∗ B ∗ C ∗ D ∗ E ∗ G ∗ H ∗ I) ⊢ X := by
  iintro ⟨HA, HB, HC, HD, HE, HG, HH, HI⟩
  iapply h
  isplitl [HA]; · iexact HA
  isplitl [HB]; · iexact HB
  isplitl [HC]; · iexact HC
  isplitl [HE]; · iexact HE
  isplitl [HG]; · iexact HG
  isplitl [HH]; · iexact HH
  isplitl [HI]; · iexact HI
  iexact HD
theorem swap_third {A B C D R X : sProp 𝕄} (h : iprop(A ∗ B ∗ D ∗ C ∗ R) ⊢ X) : iprop(A ∗ B ∗ C ∗ D ∗ R) ⊢ X := by
  iintro ⟨HA, HB, HC, HD, HR⟩
  iapply h
  isplitl [HA]; · iexact HA
  isplitl [HB]; · iexact HB
  isplitl [HD]; · iexact HD
  isplitl [HC]; · iexact HC
  iexact HR

/-- A family over all devices is the family over how far ahead they are. -/
theorem bigSep_ahead (c : Fin 32) (Φ : Fin 32 → sProp 𝕄) : (bigSep Finset.univ fun δ => Φ (c + δ)) = bigSep Finset.univ Φ :=
  (BI.bigSep_univ_equiv (Equiv.addLeft c) Φ).symm

/-- The end of the body, in order. -/
theorem arrange_end (c : Dev nD) {X : sProp 𝕄} (h : bodyEnd m ρ c ⊢ X) :
    iprop(ctx m ρ K ∗ S4 m ρ c 32 ∗ wo m ρ c (acc3 m ρ c) ∗ left2 (F := F) c ∗ left3 m ρ c ∗ (xPts c (xstg m ρ c) ∗ semVal (barCell c) 0)) ⊢ X := by
  refine BIBase.Entails.trans ?_ h
  unfold bodyEnd left2 left3
  rw [lt_end, bigSep_ahead c fun k => (semVal (readyCell c k) 0 : sProp 𝕄)]
  iintro ⟨-, HS, Hwo, Hz, ⟨Ha, Hz'⟩, Hx, Hzb⟩
  ihave H := (leave4 m ρ c) $$ HS
  icases H with ⟨HO, Hb, Hz''⟩
  isplitl [HO]; · iexact HO
  isplitl [Hx]; · iexact Hx
  isplitl [Hwo]; · iexact Hwo
  isplitl [Hb]; · iexact Hb
  isplitl [Ha]; · iexact Ha
  isplitl [Hzb]; · iexact Hzb
  isplitl [Hz]; · iexact Hz
  isplitl [Hz'']; · iexact Hz''
  iexact Hz'

/-- What the body starts from. -/
def bodyStart (c : Dev nD) (f : S64x2048.Idx → Elt F .f32) : sProp 𝕄 :=
  iprop(((∃ W, owes (c : Thread nD τ) (O₀ c) W) ∗ atPos ER (barCell c) 0 ∅ 0 ∗ cred (tallyAt (barCell c) () 1) ∗ dutyTok ER (barCell c) 0 ())
    ∗ xPts c (xstg m ρ c) ∗ (∃ f, x2Pts (F := F) c Finset.univ f) ∗ toward1 c ∗ toward2 c ∗ toward3 c ∗ wo m ρ c f ∗ toward4 c)

set_option maxHeartbeats 1000000 in
/-- The body runs. -/
theorem sound_body (c : Dev nD) (f : S64x2048.Idx → Elt F .f32) {Q : PUnit → sProp 𝕄} (h : bodyEnd m ρ c ⊢ Q ⟨⟩) :
    iprop(ctx m ρ K ∗ bodyStart m ρ c f)
      ⊢ runs c (cc0_body xM (Memref.isWhole_whole _) wM (Memref.isWhole_whole _) oM (Memref.isWhole_whole _) bM (Memref.isWhole_whole _) aM (Memref.isWhole_whole _)
          cc0_scratch2 cc0_scratch3 cc0_scratch4) Q := by
  rw [cc0_body_eq_skeleton]
  unfold cc0_body_skel bodyStart
  refine runs_bind c (part1 m ρ K c ?_)
  refine arrange1 ?_
  refine runs_bind c (part2 m ρ K c _ fun _ => ?_)
  refine runs_bind c (part3 m ρ K c _ fun _ => ?_)
  refine runs_bind c (part4 m ρ K c _ fun _ => ?_)
  refine runs_bind c (part5 m ρ K c _ fun ⟨_, _⟩ => ?_)
  refine runs_bind c (part6 m ρ K c _ _ ?_)
  refine runs_bind c (part7 m ρ K c ?_)
  refine runs_bind c (part8 m ρ K c fun _ => ?_)
  refine runs_bind c (part9 m ρ K c _ fun ⟨_, _⟩ => ?_)
  refine runs_bind c (part10 m ρ K c _ _ ?_)
  refine runs_bind c (part11 m ρ K c ?_)
  refine runs_bind c (part12 m ρ K c fun _ => ?_)
  refine runs_bind c (part13 m ρ K c _ fun _ => ?_)
  refine runs_bind c (part14 m ρ K c _ fun ⟨_, _⟩ => ?_)
  refine runs_bind c (part15 m ρ K c _ _ ?_)
  refine runs_bind c (part16 m ρ K c ?_)
  refine runs_bind c (part17 m ρ K c fun _ => ?_)
  refine runs_bind c (part18 m ρ K c _ ?_)
  refine swap_third ?_
  refine runs_bind c (part19 m ρ K c f ?_)
  refine runs_bind c (part20 m ρ K c ?_)
  refine runs_bind c (part21 m ρ K c ?_)
  refine runs_bind c (part22 m ρ K c ?_)
  refine runs_bind c (part23 m ρ K c fun _ => ?_)
  refine runs_bind c (part24 m ρ K c _ ?_)
  refine runs_bind c (part25 m ρ K c fun ⟨_, _⟩ => ?_)
  refine runs_bind c (part26 m ρ K c _ _ ?_)
  refine runs_bind c (part27 m ρ K c fun _ => ?_)
  refine runs_bind c (part28 m ρ K c _ ?_)
  refine runs_bind c (part29 m ρ K c fun ⟨_, _⟩ => ?_)
  refine runs_bind c (part30 m ρ K c _ _ ?_)
  refine runs_bind c (part31 m ρ K c ?_)
  refine runs_bind c (call_left m ρ K c 30 (by decide) inb_S32_S1_30 ?_)
  refine runs_bind c (call_left m ρ K c 31 (by decide) inb_S32_S1_31 ?_)
  exact runs_pure c _ (arrange_end m ρ K c h)

end Cert.Gather

end
-- ==== Proof.Deal.lean ====
/-
# What the launch deals

The launch makes one token for each cell and one right to open it, and gives both to the device that has the cell. This
module deals the tokens to the devices that pay, and arranges a device's share as its body wants it.
-/
module

public import proofs.«01_k».proof.Proof.Body

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families -/

/-- A family over the names of a device's cells, in its four parts. -/
theorem bigSep_names (Φ : CK → sProp 𝕄) :
    bigSep Finset.univ Φ
      = iprop(((bigSep Finset.univ fun k => Φ (some (0, k))) ∗ (bigSep Finset.univ fun k => Φ (some (1, k))) ∗ bigSep Finset.univ fun k => Φ (some (2, k))) ∗ Φ none) := by
  rw [BI.bigSep_univ_equiv (Equiv.optionEquivSumPUnit.{0, 0} (Fin 3 × Fin 32)).symm Φ, BI.bigSep_univ_sum, BI.bigSep_univ_of_subsingleton PUnit.unit,
    BI.bigSep_univ_prod, bigSep_univ_eq_bigSepL [(0 : Fin 3), 1, 2] (by decide) (by decide)]
  rfl

/-- All devices but `c`. -/
theorem others (c : Fin 32) : Finset.univ.erase c = geNe 0 c := by
  ext k; rw [mem_geNe, Finset.mem_erase]; exact ⟨fun h => ⟨Nat.zero_le _, h.1⟩, fun h => ⟨h.2, Finset.mem_univ _⟩⟩
/-- All distances but none. -/
theorem distances : (Finset.univ : Finset (Fin 32)).erase 0 = ge 1 := by
  ext k; rw [mem_ge, Finset.mem_erase]
  exact ⟨fun h => Nat.one_le_iff_ne_zero.mpr fun h' => h.1 (Fin.ext h'), fun h => ⟨fun h' => by rw [h'] at h; exact absurd h (by decide), Finset.mem_univ _⟩⟩

/-- The others, counted from `c` on. -/
theorem others_ahead (c : Fin 32) : geNe 0 c = (ge 1).map (Equiv.addLeft c).toEmbedding := by
  ext k
  rw [Finset.mem_map_equiv, ← others, ← distances, Finset.mem_erase, Finset.mem_erase]
  refine and_congr (not_congr ?_) (iff_of_true (Finset.mem_univ _) (Finset.mem_univ _))
  show k = c ↔ -c + k = 0
  rw [neg_add_eq_zero, eq_comm]

/-- A family over the others is a family over the distances. -/
theorem bigSep_others (c : Fin 32) (Φ : Fin 32 → sProp 𝕄) : bigSep (geNe 0 c) Φ = bigSep (ge 1) fun δ => Φ (c + δ) := by
  rw [others_ahead, BI.bigSep_map]; rfl

/-- A family over all devices: one of them, and the others. -/
theorem part_own (c : Fin 32) (Φ : Fin 32 → sProp 𝕄) : bigSep Finset.univ Φ = iprop(Φ c ∗ bigSep (geNe 0 c) Φ) := by
  rw [bigSep_univ_at Φ c, others]
/-- A family over all distances: none, and the rest. -/
theorem part_zero (Φ : Fin 32 → sProp 𝕄) : bigSep Finset.univ Φ = iprop(Φ 0 ∗ bigSep (ge 1) Φ) := by
  rw [bigSep_univ_at Φ 0, distances]

/-! ## The tokens -/

/-- The tokens of device `c`'s own cells. -/
def toks (c : Dev nD) : sProp 𝕄 := bigSep Finset.univ fun k : CK => dutyTok ER (kcell (c, k)) 0 ()

/-- The tokens device `c` pays with: for its barrier, for the ready and receive cells that the peers have for it, and for its own send cells. -/
def payToks (c : Dev nD) : sProp 𝕄 :=
  iprop(((bigSep Finset.univ fun j : Fin 32 => dutyTok ER (readyCell j c) 0 ()) ∗ (bigSep Finset.univ fun δ : Fin 32 => dutyTok ER (sendCell c δ) 0 ())
    ∗ bigSep Finset.univ fun t : Fin 32 => dutyTok ER (recvCell t c) 0 ()) ∗ dutyTok ER (barCell c) 0 ())

/-- The tokens are dealt to the devices that pay. -/
theorem deal_toks : (bigSep Finset.univ fun c : Dev nD => (toks c : sProp 𝕄)) ⊢ bigSep Finset.univ fun c : Dev nD => payToks c := by
  unfold toks payToks
  simp only [bigSep_names]
  rw [bigSep_sep', bigSep_sep', bigSep_sep', bigSep_sep', bigSep_sep', bigSep_sep',
    BI.bigSep_univ_comm (fun c k : Fin 32 => (dutyTok ER (kcell (c, some (0, k))) 0 () : sProp 𝕄)),
    BI.bigSep_univ_comm (fun c k : Fin 32 => (dutyTok ER (kcell (c, some (2, k))) 0 () : sProp 𝕄))]
  exact BIBase.Entails.rfl

/-! ## The launch's deal -/

/-- All the cells. -/
def allCells : Finset (GSem nD τ sig) := Finset.univ.map ⟨kcell, kcell_injective⟩
theorem tok_injective : Function.Injective (fun ck : Dev nD × CK => (kcell ck, 0, ()) : Dev nD × CK → GSem nD τ sig × ℕ × Unit) :=
  fun _ _ h => kcell_injective (congrArg Prod.fst h)
/-- A token for each. -/
def allToks : Finset (GSem nD τ sig × ℕ × Unit) := Finset.univ.map ⟨fun ck : Dev nD × CK => (kcell ck, 0, ()), tok_injective⟩

/-- The resources at launch. -/
def u₀ : UU := (initOf (Pipeline.cells cfgs cellOf_inj) (Pipeline.launchToks cfgs cellOf_inj), initOf allCells allToks)

/-- What device `c` has of them: for each of its cells the state, the right to open it, that it has reached round 0, and the token. -/
def G (c : Dev nD) : sProp 𝕄 :=
  iprop((bigSep Finset.univ fun k : CK => roundState ER (rd m ρ) (kcell (c, k)) 0)
    ∗ (bigSep Finset.univ fun k : CK => iprop(atPos ER (kcell (c, k)) 0 ∅ 0 ∗ reached ER (kcell (c, k)) 0)) ∗ toks c)

/-- What stays with device `c` once the tokens are dealt. -/
def linear (c : Dev nD) : sProp 𝕄 := iprop((bigSep Finset.univ fun k : CK => atPos ER (kcell (c, k)) 0 ∅ 0) ∗ payToks c)
/-- That, and the records of all the cells. -/
def G' (c : Dev nD) : sProp 𝕄 := iprop(∃ K, records m ρ K ∗ linear c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

/-- The kernel's own semaphores: all but the barrier. -/
abbrev osem : Fin 3 × Fin 32 → SemLoc sig := fun ik => csem (some ik)

/-- A device's own semaphores at zero: three families. -/
theorem ownSems0_eq (c : Dev nD) : (Pipeline.ownSems0 (Ix := Unit) (Name := ℕ) (U := UU) (Lvl := ℕ) (Val := Elt F) (τ := τ) osem c : sProp 𝕄)
    = iprop((bigSep Finset.univ fun k => semVal (readyCell c k) 0) ∗ (bigSep Finset.univ fun k => semVal (sendCell c k) 0) ∗ bigSep Finset.univ fun k => semVal (recvCell c k) 0) := by
  unfold Pipeline.ownSems0
  rw [BI.bigSep_univ_prod, bigSep_univ_eq_bigSepL [(0 : Fin 3), 1, 2] (by decide) (by decide)]
  rfl

set_option maxRecDepth 8000 in
/-- The barrier semaphore is the one that the runtime has. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      = (bigSep Finset.univ fun k : CK => semVal (kcell (c, k)) 0 : sProp 𝕄) := by
  rw [ownSems0_eq, unscopedSems0_eq, bigSep_names]; rfl

/-! ## The cells' invariants -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : CK => semVal (kcell (c, k)) 0) ∗ bigSep Finset.univ fun k : CK => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd m ρ) κ (kcell ck) : sProp 𝕄))) $$ HI
  icases HK with ⟨%K, #HI⟩
  ihave Htk := (deal_toks (F := F)) $$ Htok
  iapply (with_records (R := records m ρ K) (Φ := linear) fun c _ => by
    unfold G'
    iintro ⟨H1, H2⟩
    iexists K
    isplitl [H1]; · iexact H1
    iexact H2)
  isplitr
  · unfold records; isplitl; · iexact HI
    iexact HR
  · unfold linear
    rw [bigSep_sep']
    isplitl [Hat]; · iexact Hat
    iexact Htk

/-- The step that all devices take together at launch. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## A device's share, as its body wants it -/

/-- The credit of a device: for its barrier, and for the ready signals and the messages of all the others. -/
def credits (c : Dev nD) : sProp 𝕄 :=
  iprop(cred (tallyAt (barCell c) () 1) ∗ (bigSep (geNe 0 c) fun k => cred (tallyAt (readyCell c k) () 1)) ∗ bigSep (geNe 0 c) fun s => cred (tallyAt (recvCell c s) () N))

/-- A cell without a duty can be closed at once. -/
theorem close_unused (K : Dev nD × CK → ℕ) (ck : Dev nD × CK) (h : used (kcell ck) = false) :
    iprop(ctx m ρ K ∗ atPos ER (kcell ck) 0 ∅ 0) ⊢ |={Set.univ}=> semVal (kcell ck) 0 :=
  BIBase.Entails.trans (sep_mono_left (ctx_inv m ρ K ck)) (Rounds.cell_close ER (rd m ρ) (Set.mem_univ (K ck)) (fun h => h) (R := 0) (duties_unused m ρ (kcell ck) h))

/-- The share, phase by phase. -/
theorem share (K : Dev nD × CK → ℕ) (c : Dev nD) :
    iprop(ctx m ρ K ∗ linear c ∗ credits c)
      ⊢ |={Set.univ}=> iprop((atPos ER (barCell c) 0 ∅ 0 ∗ cred (tallyAt (barCell c) () 1) ∗ dutyTok ER (barCell c) 0 ())
          ∗ (bigSep (geNe 0 c) fun j => dutyTok ER (readyCell j c) 0 ()) ∗ toward2 c ∗ toward3 c ∗ toward4 c) := by
  unfold linear payToks credits
  rw [bigSep_names, part_own c fun k => (atPos ER (kcell (c, some (0, k))) 0 ∅ 0 : sProp 𝕄), part_own c fun k => (atPos ER (kcell (c, some (2, k))) 0 ∅ 0 : sProp 𝕄),
    part_zero fun k => (atPos ER (kcell (c, some (1, k))) 0 ∅ 0 : sProp 𝕄), part_own c fun j => (dutyTok ER (readyCell j c) 0 () : sProp 𝕄),
    part_zero fun δ => (dutyTok ER (sendCell c δ) 0 () : sProp 𝕄), part_own c fun t => (dutyTok ER (recvCell t c) 0 () : sProp 𝕄),
    bigSep_others c fun k => (atPos ER (kcell (c, some (0, k))) 0 ∅ 0 : sProp 𝕄), bigSep_others c fun k => (cred (tallyAt (readyCell c k) () 1) : sProp 𝕄),
    bigSep_others c fun t => (dutyTok ER (recvCell t c) 0 () : sProp 𝕄)]
  iintro ⟨#Hc, ⟨⟨⟨⟨HaR, HaRs⟩, ⟨HaS, HaSs⟩, ⟨HaV, HaVs⟩⟩, HaB⟩, ⟨⟨⟨-, HtR⟩, ⟨-, HtS⟩, ⟨-, HtV⟩⟩, HtB⟩⟩, HcB, HcR, HcV⟩
  imod (close_unused m ρ K (c, some (0, c)) (unused_ready c)) $$ [HaR] with HzR
  · isplitr; · iexact Hc
    iexact HaR
  imod (close_unused m ρ K (c, some (1, 0)) (unused_send c)) $$ [HaS] with HzS
  · isplitr; · iexact Hc
    iexact HaS
  imod (close_unused m ρ K (c, some (2, c)) (unused_recv c)) $$ [HaV] with HzV
  · isplitr; · iexact Hc
    iexact HaV
  imodintro
  isplitl [HaB HcB HtB]
  · isplitl [HaB]; · iexact HaB
    isplitl [HcB]; · iexact HcB
    iexact HtB
  isplitl [HtR]; · iexact HtR
  isplitl [HaRs HcR HtV HtS HzR]
  · unfold toward2
    isplitr [HzR]
    · unfold msg
      ihave H1 := (zip_sep (ge 1) (fun δ => (atPos ER (readyCell c (c + δ)) 0 ∅ 0 : sProp 𝕄)) fun δ => cred (tallyAt (readyCell c (c + δ)) () 1)) $$ [HaRs HcR]
      · isplitl [HaRs]; · iexact HaRs
        iexact HcR
      ihave H2 := (zip_sep (ge 1) (fun δ => (dutyTok ER (recvCell (c + δ) c) 0 () : sProp 𝕄)) fun δ => dutyTok ER (sendCell c δ) 0 ()) $$ [HtV HtS]
      · isplitl [HtV]; · iexact HtV
        iexact HtS
      iapply (zip_sep (ge 1))
      isplitl [H1]; · iexact H1
      iexact H2
    · iexact HzR
  isplitl [HaVs HcV HzV]
  · unfold toward3
    isplitr [HzV]
    · iapply (zip_sep (geNe 0 c))
      isplitl [HaVs]; · iexact HaVs
      iexact HcV
    · iexact HzV
  unfold toward4
  isplitl [HaSs]; · iexact HaSs
  iexact HzS

end Cert.Gather

end
-- ==== Proof.Owed.lean ====
/-
# The credit at launch

What all the devices owe a cell at launch is the credit that the device with the cell has for it.
-/
module

public import proofs.«01_k».proof.Proof.Deal

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A due of one cell is no due of another; -/
theorem tally_other {a b : Dev nD × CK} (h : b ≠ a) (n : ℕ) : (tallyAt (kcell a) () n : CellTallies nD τ sig Unit) (kcell b) () = 0 := by
  rw [tallyAt_apply, if_neg fun h' => h (kcell_injective h'.1)]
/-- of its own cell it is all. -/
theorem tally_own (a : Dev nD × CK) (n : ℕ) : (tallyAt (kcell a) () n : CellTallies nD τ sig Unit) (kcell a) () = n := by
  rw [tallyAt_apply, if_pos ⟨rfl, rfl⟩]

/-- What device `d` owes a cell: its messages, its ready signals, its barrier. -/
theorem owed_at (d : Dev nD) (b : Dev nD × CK) :
    O₀ d (kcell b) () = (∑ δ ∈ ge 1, (tallyAt (kcell (d + δ, some (2, d))) () N : CellTallies nD τ sig Unit) (kcell b) ())
      + (∑ j ∈ geNe 0 d, (tallyAt (kcell (j, some (0, d))) () 1 : CellTallies nD τ sig Unit) (kcell b) ())
      + (tallyAt (kcell (d, none)) () 1 : CellTallies nD τ sig Unit) (kcell b) () := by
  unfold O₀ O1 O2
  rw [Pi.add_apply, Finsupp.add_apply, Pi.add_apply, Finsupp.add_apply, Finset.sum_apply, Finsupp.finset_sum_apply, Finset.sum_apply, Finsupp.finset_sum_apply]
  rfl

/-- Device `c`'s barrier cell is owed one by device `c`. -/
theorem owed_bar (d c : Dev nD) : O₀ d (kcell (c, none)) () = if d = c then 1 else 0 := by
  rw [owed_at, Finset.sum_eq_zero fun δ _ => tally_other (fun h => Option.some_ne_none _ (congrArg Prod.snd h).symm) _,
    Finset.sum_eq_zero fun j _ => tally_other (fun h => Option.some_ne_none _ (congrArg Prod.snd h).symm) _, Nat.zero_add, Nat.zero_add]
  split
  · next h => subst h; exact tally_own _ _
  · next h => exact tally_other (fun h' => h (congrArg Prod.fst h').symm) _

/-- The name of a family's cell gives the family; -/
theorem family_eq {i j : Fin 3} {k l : Fin 32} {c d : Dev nD} (h : ((c, some (i, k)) : Dev nD × CK) = (d, some (j, l))) : i = j :=
  congrArg Prod.fst (Option.some.inj (congrArg Prod.snd h))
/-- and the member. -/
theorem member_eq {i j : Fin 3} {k l : Fin 32} {c d : Dev nD} (h : ((c, some (i, k)) : Dev nD × CK) = (d, some (j, l))) : k = l :=
  congrArg Prod.snd (Option.some.inj (congrArg Prod.snd h))

/-- Device `c`'s ready cell for another device `k` is owed one by device `k`. -/
theorem owed_ready (d c : Dev nD) (k : Fin 32) (hk : k ≠ c) : O₀ d (kcell (c, some (0, k))) () = if d = k then 1 else 0 := by
  rw [owed_at, Finset.sum_eq_zero fun δ _ => tally_other (fun h => absurd (family_eq h) (by decide)) _, Nat.zero_add,
    tally_other (fun h => Option.some_ne_none _ (congrArg Prod.snd h)) _, Nat.add_zero]
  split
  · next h =>
    subst h
    rw [Finset.sum_eq_single_of_mem c (mem_geNe.mpr ⟨Nat.zero_le _, hk.symm⟩) fun j _ hj => tally_other (fun h => hj (congrArg Prod.fst h).symm) _]
    exact tally_own _ _
  · next h => exact Finset.sum_eq_zero fun j _ => tally_other (fun h' => h (member_eq h').symm) _

/-- Device `c`'s receive cell for another device `s` is owed a message by device `s`. -/
theorem owed_recv (d c : Dev nD) (s : Fin 32) (hs : s ≠ c) : O₀ d (kcell (c, some (2, s))) () = if d = s then N else 0 := by
  rw [owed_at, Finset.sum_eq_zero (s := geNe 0 d) fun j _ => tally_other (fun h => absurd (family_eq h) (by decide)) _, Nat.add_zero,
    tally_other (fun h => Option.some_ne_none _ (congrArg Prod.snd h)) _, Nat.add_zero]
  split
  · next h =>
    subst h
    have hc : d + (c - d) = c := add_sub_cancel d c
    have hmem : c - d ∈ ge 1 := mem_ge.mpr (Nat.one_le_iff_ne_zero.mpr fun h' => hs (sub_eq_zero.mp (Fin.ext h')).symm)
    rw [Finset.sum_eq_single_of_mem (c - d) hmem fun δ _ hδ => tally_other (fun h => hδ (eq_sub_of_add_eq' (congrArg Prod.fst h).symm)) _, hc]
    exact tally_own _ _
  · next h => exact Finset.sum_eq_zero fun j _ => tally_other (fun h' => h (member_eq h').symm) _

/-- If only device `e` owes a cell, the cell's credit is what that device owes. -/
theorem credit_of (b : Dev nD × CK) (e : Dev nD) (n : ℕ) (h : ∀ d, O₀ d (kcell b) () = if d = e then n else 0) :
    tallyOn (kcell b) (launchCredit (Pipeline.owing O₀) 0 (kcell b)) = (tallyAt (kcell b) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ e fun _ => n,
    if_pos (Finset.mem_univ _)]

/-- The credit that the launch deals device `c`. -/
theorem creds (c : Dev nD) : (Pipeline.launchCred O₀ c : sProp 𝕄) ⊢ credits c := by
  have hsub : (Pipeline.launchCred O₀ c : sProp 𝕄)
      ⊢ bigSep Finset.univ fun k : CK => cred (tallyOn (kcell (c, k)) (launchCredit (Pipeline.owing O₀) 0 (kcell (c, k)))) := by
    unfold Pipeline.launchCred
    refine BIBase.Entails.trans (BI.bigSep_subset (t := Finset.univ.map ⟨csem, csem_injective⟩) (Finset.subset_univ _)) ?_
    rw [BI.bigSep_map]
    exact BIBase.Entails.rfl
  refine BIBase.Entails.trans hsub ?_
  unfold credits
  rw [bigSep_names, part_own c fun k => (cred (tallyOn (kcell (c, some (0, k))) (launchCredit (Pipeline.owing O₀) 0 (kcell (c, some (0, k))))) : sProp 𝕄),
    part_own c fun k => (cred (tallyOn (kcell (c, some (2, k))) (launchCredit (Pipeline.owing O₀) 0 (kcell (c, some (2, k))))) : sProp 𝕄),
    credit_of (c, none) c 1 fun d => owed_bar d c,
    bigSep_congr (s := geNe 0 c) fun k hk => congrArg cred (credit_of (c, some (0, k)) k 1 fun d => owed_ready d c k (mem_geNe.mp hk).2),
    bigSep_congr (s := geNe 0 c) fun k hk => congrArg cred (credit_of (c, some (2, k)) k N fun d => owed_recv d c k (mem_geNe.mp hk).2)]
  iintro ⟨⟨⟨-, HR⟩, -, ⟨-, HV⟩⟩, HB⟩
  isplitl [HB]; · iexact HB
  isplitl [HR]; · iexact HR
  iexact HV

end Cert.Gather

end
-- ==== Proof.Launch.lean ====
/-
# The launch, and the run

The kernel has one point and three windows: the block of the argument, the matrix, and the result. This module says what
each holds before and after the point, gives the body what it starts from, and concludes that the whole program runs to its
end on all devices, for any float values.
-/
module

public import proofs.«01_k».proof.Proof.Owed
public import Idealize.ShloMosaic.Lib.Pipeline.CollectiveSegs

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the pipeline is told -/

/-- What device `c` has of the protocol when its body starts. -/
def start (c : Dev nD) : sProp 𝕄 := iprop(G' m ρ c ∗ credits c ∗ levAts L lv)
/-- What its body starts from beside the windows. -/
def Φ₀ (c : Dev nD) : sProp 𝕄 := iprop(start m ρ c ∗ (∃ f, x2Pts (F := F) c Finset.univ f) ∗ ∃ f, asmPts (F := F) c Finset.univ f)
/-- What it leaves beside them: the two scratch buffers filled and every cell closed. -/
def Φ₁ (c : Dev nD) : sProp 𝕄 :=
  iprop(x2Pts c Finset.univ (x2Of m ρ c) ∗ asmPts c Finset.univ (asmOf m ρ c) ∗ semVal (barCell c) 0
    ∗ (bigSep Finset.univ fun k => semVal (readyCell c k) 0) ∗ (bigSep Finset.univ fun k => semVal (sendCell c k) 0)
    ∗ bigSep Finset.univ fun k => semVal (recvCell c k) 0)

/-- The pipeline's data on device `c`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => acc3 m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- The windows one by one. -/
theorem windows (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole buffer at contents `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is given. -/
def bodyPre (c : Dev nD) : sProp 𝕄 :=
  iprop(Φ₀ m ρ c ∗ (dats m ρ 0 c).owesAt () t0_0.castSucc
    ∗ (∃ d, held c cc0_stg0_0 ((dats m ρ 0 c).before (0 : Fin 3) t0_0 d))
    ∗ (∃ d, held c cc0_stg1_0 ((dats m ρ 0 c).before (1 : Fin 3) t0_0 d))
    ∗ (∃ d, held c cc0_stg2_0 ((dats m ρ 0 c).before (2 : Fin 3) t0_0 d)))
/-- What it must leave. -/
def bodyPost (c : Dev nD) : sProp 𝕄 :=
  iprop(Φ₁ m ρ c ∗ (dats m ρ 0 c).owesAt () t0_0.succ ∗ held c cc0_stg0_0 (xstg m ρ c) ∗ held c cc0_stg1_0 (wstg m ρ c) ∗ held c cc0_stg2_0 (acc3 m ρ c))

/-- The end of the body is what it must leave. -/
theorem post_of_end (c : Dev nD) : bodyEnd m ρ c ⊢ bodyPost m ρ c := by
  unfold bodyEnd bodyPost Φ₁ wo xPts wPts oPts Dat.owesAt Pipeline.owesWithin
  rw [show (dats m ρ 0 c).owed t0_0.succ = 0 from rfl]
  iintro ⟨⟨%W, HO⟩, Hx, ⟨Hw, Ho⟩, Hb, Ha, HzB, HzR, HzS, HzV⟩
  isplitl [Hb Ha HzB HzR HzS HzV]
  · isplitl [Hb]; · iexact Hb
    isplitl [Ha]; · iexact Ha
    isplitl [HzB]; · iexact HzB
    isplitl [HzR]; · iexact HzR
    isplitl [HzS]; · iexact HzS
    iexact HzV
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

set_option maxRecDepth 4000 in
set_option maxHeartbeats 1000000 in
/-- The body does what the pipeline asks of it. -/
theorem body_obligation (c : Dev nD) : BodyObligation (dats (F := F) m ρ 0 c) (defs₀ (F := F)) 𝒱₀ () Set.univ := fun t => by
  rw [fin_N0 t, windows, windows]
  simp only [owns_whole_eq]
  show bodyPre m ρ c ⊢ runs c (cc0_body xM (Memref.isWhole_whole _) wM (Memref.isWhole_whole _) oM (Memref.isWhole_whole _) bM (Memref.isWhole_whole _) aM (Memref.isWhole_whole _)
          cc0_scratch2 cc0_scratch3 cc0_scratch4) (fun _ => bodyPost m ρ c)
  unfold bodyPre Φ₀ start G' Dat.owesAt Pipeline.owesWithin
  rw [show (dats m ρ 0 c).owed t0_0.castSucc = O₀ c from rfl]
  iintro ⟨⟨⟨⟨%K, #HR, Hl⟩, Hcr, #Hlev⟩, Hb, Ha⟩, ⟨%W, %hW, HO⟩, ⟨%d0, %g0, %hg0, Hx⟩, ⟨%d1, %g1, %hg1, Hw⟩, ⟨%d2, %g2, %hg2, Ho⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  imod (share m ρ K c) $$ [Hl Hcr] with ⟨HB, HtR, H2, H3, H4⟩
  · unfold ctx
    isplitr
    · isplitr; · iexact HR
      iexact Hlev
    isplitl [Hl]; · iexact Hl
    iexact Hcr
  iapply (sound_body m ρ K c g2 (post_of_end m ρ c))
  isplitr
  · unfold ctx
    isplitr; · iexact HR
    iexact Hlev
  unfold bodyStart toward1 wo xPts wPts oPts
  isplitl [HO HB]
  · isplitl [HO]; · iexists W; iexact HO
    iexact HB
  isplitl [Hx]; · iexact Hx
  isplitl [Hb]; · iexact Hb
  isplitl [HtR Ha]
  · isplitl [HtR]; · iexact HtR
    iexact Ha
  isplitl [H2]; · iexact H2
  isplitl [H3]; · iexact H3
  isplitl [Hw Ho]
  · isplitl [Hw]; · iexact Hw
    iexact Ho
  iexact H4

/-! ## The launch -/

set_option maxRecDepth 8000 in
theorem ownSemFacts : Pipeline.OwnSemFacts cfg0.spec osem where
  isScoped := by decide
  inj := fun a b h => Option.some.inj (csem_injective h)
  disj := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ x2Pts asmPts
  iintro ⟨Hs, -, ⟨%f, Hb⟩, ⟨%g, Ha⟩⟩
  isplitl [Hs]; · iexact Hs
  isplitl [Hb]; · iexists f; iexact Hb
  iexists g; iexact Ha

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ x2Pts asmPts
  iintro ⟨Hb, Ha, HzB, HzR, HzS, HzV⟩
  isplitl [HzB]; · iexact HzB
  isplitl [HzR HzS HzV]
  · isplitl [HzR]; · iexact HzR
    isplitl [HzS]; · iexact HzS
    iexact HzV
  isplitl [Hb]; · iexists (x2Of m ρ c); iexact Hb
  iexists (asmOf m ρ c); iexact Ha

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array on device `c` holds at the end. -/
def finalA (c : Dev nD) (w : Fin cfg0.W) : Buf (Elt F) ((cfg0.win w).arr.view.loc (c : Thread nD τ)) := (dats m ρ 0 c).arrAt w cfg0.N

/-- Every array of every device holds that. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with all counters at zero, every weakly fair run of the program on the
    thirty-two devices ends; at the end each device's arrays hold what is stated above, and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Gather

end
-- ==== Proof.Frames.lean ====
/-
# The frames, and what the result array holds

The kernel leaves its two arguments as they were and every counter at zero, read at machine floats and at ideal ones; so
does the reference. The result array holds what the body computed.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The array of the argument is unchanged. -/
theorem finalA_x (c : Dev nD) : finalA m ρ c (0 : Fin 3) = (s₀ m ρ).mem (win0_0.arr.view.loc (c : Thread nD τ)) :=
  (dats (F := F) m ρ 0 c).arrAt_in (0 : Fin 3) rfl _
/-- The matrix is unchanged. -/
theorem finalA_w (c : Dev nD) : finalA m ρ c (1 : Fin 3) = (s₀ m ρ).mem (win0_1.arr.view.loc (c : Thread nD τ)) :=
  (dats (F := F) m ρ 0 c).arrAt_in (1 : Fin 3) rfl _

/-- The block of the argument in its staging buffer is the device's array. -/
theorem xstg_eq (c : Dev nD) : xstg m ρ c = m ((c : Thread nD τ).loc main_arg0) :=
  Memref.read_access_unit_zero (Elt F) main_arg0 (funext fun a => by fin_cases a <;> decide) (fun a => by fin_cases a <;> decide) _
/-- The matrix in its staging buffer is the device's array. -/
theorem wstg_eq (c : Dev nD) : wstg m ρ c = m ((c : Thread nD τ).loc main_arg1) :=
  Memref.read_access_unit_zero (Elt F) main_arg1 (funext fun a => by fin_cases a <;> decide) (fun a => by fin_cases a <;> decide) _

/-- The result array holds what the body computed. -/
theorem finalA_o (c : Dev nD) : finalA m ρ c (2 : Fin 3) = acc3 m ρ c := by
  have h : (win0_2.blk (0 : Fin 1)).view.read (Elt F) (finalA m ρ c (2 : Fin 3)) = acc3 m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (Memref.read_access_unit_zero (Elt F) main_v1 (funext fun a => by fin_cases a <;> decide) (fun a => by fin_cases a <;> decide) _).symm.trans h

/-- The kernel at ideal floats: it runs, its arguments are unchanged, every counter is zero. -/
theorem frame_ideal : Cert.quiescent_KernelIdeal := fun m ρ _ =>
  (θ_run defs _ _).mono (fun _ h => ⟨fun c => ⟨(h.1 c (0 : Fin 3)).trans (finalA_x m ρ c), (h.1 c (1 : Fin 3)).trans (finalA_w m ρ c)⟩, h.2⟩)
    (run_main (F := Ideal) m ρ)

set_option smartUnfolding false in
/-- The calls of the two readings of the kernel are the same, the text being one. -/
theorem defs_eq : Cert.Kernel.defs (F := Bits) = Cert.KernelIdeal.defs (F := Bits) := rfl

/-- The kernel at machine floats, whose text is the same: it runs, its arguments are unchanged, every counter is zero. -/
theorem frame_kernel : Cert.quiescent_Kernel := fun m ρ _ => by
  rw [defs_eq]
  exact (θ_run Cert.KernelIdeal.defs _ _).mono (fun _ h => ⟨fun c => ⟨(h.1 c (0 : Fin 3)).trans (finalA_x m ρ c), (h.1 c (1 : Fin 3)).trans (finalA_w m ρ c)⟩, h.2⟩)
    (run_main (F := Bits) m ρ)

/-- The reference runs, its arguments are unchanged, and it has no counters. -/
theorem frame_reference : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

end Cert.Gather

end
-- ==== Proof.Values.lean ====
/-
# What one block of the product computes

The rearranged block of `x` at an index; a gathered slot at an index; the 64 by 512 operand of a group's product at an
index; and each group's product as a sum over its 512 columns. The indices are named by coordinates throughout.
-/
module

public import proofs.«01_k».proof.Proof.Calls
public import Idealize.ShloMosaic.Lib.MatmulPlain
public import Idealize.ShloMosaic.Lib.ValueIdx
public import Idealize.ShloMosaic.Lib.ValueLayout
public import Idealize.ShloMosaic.Lib.Pipeline.Value

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open scoped BigOperators

/-- Row `32 j + h`, lane `b` of the rearranged block is row `64 j + 32 (b / 64) + h`, column `b % 64` of the block. -/
theorem rearranged_apply (v : Vec F S2048x64 .f32) (j h : Fin 32) (b : Fin 128) :
    k0_pay1 v (fromIdx j h b)
      = v (ix2 (⟨64 * j.val + 32 * (b.val / 64) + h.val, by omega⟩ : Fin 2048) (⟨b.val % 64, by omega⟩ : Fin 64)) := by
  unfold k0_pay1 fromIdx
  dsimp only
  rw [shapeCast_self]
  refine (shapeCast_apply _ _ _ (ix4 j h (⟨b.val / 64, by omega⟩ : Fin 2) (⟨b.val % 64, by omega⟩ : Fin 64)) ?_).trans ?_
  · rw [Shape.rowMajor_val_four, Shape.rowMajor_val_two]
    show ((j.val * 32 + h.val) * 2 + b.val / 64) * 64 + b.val % 64 = (32 * j.val + h.val) * 128 + b.val
    omega
  refine (transpose_apply _ _ _ _ (ix4 j (⟨b.val / 64, by omega⟩ : Fin 2) h (⟨b.val % 64, by omega⟩ : Fin 64))
    fun a => match a with | ⟨0, _⟩ => rfl | ⟨1, _⟩ => rfl | ⟨2, _⟩ => rfl | ⟨3, _⟩ => rfl).trans ?_
  refine (shapeCast_apply _ _ _ (ix2 (⟨64 * j.val + 32 * (b.val / 64) + h.val, by omega⟩ : Fin 2048) (⟨b.val % 64, by omega⟩ : Fin 64)) ?_).trans ?_
  · rw [Shape.rowMajor_val_four, Shape.rowMajor_val_two]
    show (64 * j.val + 32 * (b.val / 64) + h.val) * 64 + b.val % 64 = ((j.val * 2 + b.val / 64) * 32 + h.val) * 64 + b.val % 64
    omega
  rw [shapeCast_self]

/-- Slot `s` of what device `c` gathers, at row `h` and lane `b`, comes from device `s`'s block of `x`. -/
theorem gathered_apply (c s : Dev nD) (h : Fin 32) (b : Fin 128) :
    asmOf m ρ c (ix3 s h b)
      = xstg m ρ s (ix2 (⟨64 * c.val + 32 * (b.val / 64) + h.val, by have : c.val < 32 := c.isLt; omega⟩ : Fin 2048) (⟨b.val % 64, by omega⟩ : Fin 64)) :=
  rearranged_apply (xstg m ρ s) c h b

/-- Eight gathered slots, read from slot `o` on, at an index. -/
theorem slots8_apply (c : Dev nD) (o : ℕ) (ho : o + 8 ≤ 32) (hin) (p : Fin 8) (h : Fin 32) (b : Fin 128) :
    slots8 m ρ c ![o, 0, 0] hin (ix3 p h b) = asmOf m ρ c (ix3 (⟨o + p.val, by omega⟩ : Fin 32) h b) := by
  refine congrArg (asmOf m ρ c) (funext fun a => Fin.ext ?_)
  match a with
  | ⟨0, _⟩ => show o + 1 * p.val = o + p.val; omega
  | ⟨1, _⟩ => show 0 + 1 * h.val = h.val; omega
  | ⟨2, _⟩ => show 0 + 1 * b.val = b.val; omega

/-- Rows of the matrix, read from row `o` on, at an index. -/
theorem rows512_apply (c : Dev nD) (o : ℕ) (ho : o + 512 ≤ 2048) (hin) (k : Fin 512) (n : Fin 2048) :
    rows512 m ρ c ![o, 0] hin (ix2 k n) = wstg m ρ c (ix2 (⟨o + k.val, by omega⟩ : Fin 2048) n) := by
  refine congrArg (wstg m ρ c) (funext fun a => Fin.ext ?_)
  match a with
  | ⟨0, _⟩ => show o + 1 * k.val = o + k.val; omega
  | ⟨1, _⟩ => show 0 + 1 * n.val = n.val; omega

/-- One half of a group's operand: lanes `o` to `o + 63` of eight slots, laid side by side. -/
theorem half_apply (v : Vec F S8x32x128 .f32) (o : ℕ) (ho : o + 64 ≤ 128) (hs : S8x32x128.Slices ![0, 0, o] S8x32x64)
    (ht : S8x32x64.Transposes [1, 0, 2] S32x8x64) (hc : S32x8x64.ShapeCasts S32x512) (h : Fin 32) (k : Fin 512) :
    shapeCast S32x512 (transpose S32x8x64 [1, 0, 2] (extractStridedSlice S8x32x64 ![0, 0, o] v hs) ht) hc (ix2 h k)
      = v (ix3 (⟨k.val / 64, by omega⟩ : Fin 8) h (⟨o + k.val % 64, by omega⟩ : Fin 128)) := by
  refine (shapeCast_apply _ _ _ (ix3 h (⟨k.val / 64, by omega⟩ : Fin 8) (⟨k.val % 64, by omega⟩ : Fin 64)) ?_).trans ?_
  · rw [Shape.rowMajor_val_three, Shape.rowMajor_val_two]
    show (h.val * 8 + k.val / 64) * 64 + k.val % 64 = h.val * 512 + k.val
    omega
  refine (transpose_apply _ _ _ _ (ix3 (⟨k.val / 64, by omega⟩ : Fin 8) h (⟨k.val % 64, by omega⟩ : Fin 64))
    fun a => match a with | ⟨0, _⟩ => rfl | ⟨1, _⟩ => rfl | ⟨2, _⟩ => rfl).trans ?_
  refine congrArg v (funext fun a => Fin.ext ?_)
  match a with
  | ⟨0, _⟩ => exact Nat.zero_add _
  | ⟨1, _⟩ => exact Nat.zero_add _
  | ⟨2, _⟩ => rfl

/-- A group's operand at row `r` and column `k`: slot `k / 64`, row `r % 32`, lane `64 (r / 32) + k % 64`. -/
theorem operand_apply (v : Vec F S8x32x128 .f32) (r : Fin 64) (k : Fin 512) :
    k0_pay4 v (ix2 r k)
      = v (ix3 (⟨k.val / 64, by omega⟩ : Fin 8) (⟨r.val % 32, by omega⟩ : Fin 32) (⟨64 * (r.val / 32) + k.val % 64, by omega⟩ : Fin 128)) := by
  unfold k0_pay4
  dsimp only
  by_cases hr : r.val < 32
  · refine (concatenate_pair_apply_left (s₁ := S32x512) (s₂ := S32x512) 0 _ _ _ (ix2 r k) rfl (ix2 (⟨r.val % 32, by omega⟩ : Fin 32) k : S32x512.Idx)
      fun a => match a with | ⟨0, _⟩ => Nat.mod_eq_of_lt hr | ⟨1, _⟩ => rfl).trans ?_
    refine (half_apply v 0 (by omega) _ _ _ _ k).trans ?_
    refine congrArg (fun l => v (ix3 _ _ l)) (Fin.ext ?_)
    show 0 + k.val % 64 = 64 * (r.val / 32) + k.val % 64
    omega
  · refine (concatenate_pair_apply_right (s₁ := S32x512) (s₂ := S32x512) 0 _ _ _ (ix2 r k) rfl rfl (ix2 (⟨r.val % 32, by omega⟩ : Fin 32) k : S32x512.Idx)
      (fun a => match a with | ⟨0, _⟩ => fun h => absurd rfl h | ⟨1, _⟩ => fun _ => rfl) ?_).trans ?_
    · show r.val % 32 + 32 = r.val
      omega
    refine (half_apply v 64 (by omega) _ _ _ _ k).trans ?_
    refine congrArg (fun l => v (ix3 _ _ l)) (Fin.ext ?_)
    show 64 + k.val % 64 = 64 * (r.val / 32) + k.val % 64
    omega

/-- Entry `(64 c + r, K)` of the whole of `x`, as device `c` finds it in the blocks: column `K % 64` of the block of
device `K / 64`. -/
def entry (c : Dev nD) (r : Fin 64) (K : Fin 2048) : Elt F .f32 :=
  xstg m ρ (⟨K.val / 64, by omega⟩ : Fin 32) (ix2 (⟨64 * c.val + r.val, by have : c.val < 32 := c.isLt; omega⟩ : Fin 2048) (⟨K.val % 64, by omega⟩ : Fin 64))

/-- The operand of the group of slots from `8 g` on holds the entries of columns `512 g` to `512 g + 511`. -/
theorem operand_entry (c : Dev nD) (g : Fin 4) (o : ℕ) (ho : o = 8 * g.val) (hin) (r : Fin 64) (k : Fin 512) :
    k0_pay4 (slots8 m ρ c ![o, 0, 0] hin) (ix2 r k) = entry m ρ c r (⟨512 * g.val + k.val, by omega⟩ : Fin 2048) := by
  refine (operand_apply _ r k).trans ((slots8_apply m ρ c o (by omega) hin _ _ _).trans ((gathered_apply m ρ c _ _ _).trans ?_))
  unfold entry
  have e1 : (⟨o + k.val / 64, by omega⟩ : Fin 32) = ⟨(512 * g.val + k.val) / 64, by omega⟩ := Fin.ext (by dsimp only; omega)
  have e2 : (⟨64 * c.val + 32 * ((64 * (r.val / 32) + k.val % 64) / 64) + r.val % 32, by have : c.val < 32 := c.isLt; omega⟩ : Fin 2048)
      = ⟨64 * c.val + r.val, by have : c.val < 32 := c.isLt; omega⟩ := Fin.ext (by dsimp only; omega)
  have e3 : (⟨(64 * (r.val / 32) + k.val % 64) % 64, by omega⟩ : Fin 64) = ⟨(512 * g.val + k.val) % 64, by omega⟩ :=
    Fin.ext (by dsimp only; omega)
  dsimp only at e1 e2 e3 ⊢
  rw [e1, e2, e3]

end Cert.Gather

end
-- ==== Proof.Product.lean ====
/-
# What the result array holds at ideal floats

Each group's product is a sum over 512 columns of `x`; the four of them, added up in turn, are the sum over all 2048.
-/
module

public import proofs.«01_k».proof.Proof.Values

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open scoped BigOperators

variable (n : (ℓ : Loc nD τ sig) → Buf (Elt Ideal) ℓ)

/-- A matrix product of a 64 by 512 operand, into an array of zeros, is the sum of the products over the 512 columns. -/
theorem product_apply (a : FVec Ideal S64x512 .f32) (w : FVec Ideal S512x2048 .f32) (r : Fin 64) (j : Fin 2048) :
    matmul dot_S64x512_S512x2048_S64x2048_1_0_0_1_n_n none a w (constant S64x2048 .f32 0x00000000#32) (ix2 r j)
      = ∑ k : Fin 512, a (ix2 r k) * w (ix2 k j) := by
  refine (Ideal.matmul_plain_apply none a w (constant S64x2048 .f32 0x00000000#32) r j).trans ?_
  refine (congrArg (· + _) Ideal.ofBits_zero_f32).trans ?_
  exact zero_add _

/-- The term of column `K` in the result's entry `(r, j)` on device `c`. -/
def term (c : Dev nD) (r : Fin 64) (j : Fin 2048) (K : Fin 2048) : EReal :=
  entry (F := Ideal) n ρ c r K * wstg (F := Ideal) n ρ c (ix2 K j)

/-- The product of group `g`, at an entry: the terms of its 512 columns. -/
theorem group_apply (c : Dev nD) (g : Fin 4) (o q : ℕ) (ho : o = 8 * g.val) (hq : q = 512 * g.val) (hin) (hin') (r : Fin 64) (j : Fin 2048) :
    matmul dot_S64x512_S512x2048_S64x2048_1_0_0_1_n_n none (k0_pay4 (slots8 (F := Ideal) n ρ c ![o, 0, 0] hin))
        (shapeCast S512x2048 (rows512 (F := Ideal) n ρ c ![q, 0] hin') shapeCasts_S512x2048_S512x2048 : FVec Ideal S512x2048 .f32) (constant S64x2048 .f32 0x00000000#32) (ix2 r j)
      = ∑ k : Fin 512, term ρ n c r j (⟨512 * g.val + k.val, by omega⟩ : Fin 2048) := by
  subst hq
  rw [product_apply, shapeCast_self]
  refine Finset.sum_congr rfl fun k _ => ?_
  rw [operand_entry n ρ c g o ho hin r k, rows512_apply n ρ c (512 * g.val) (by omega) hin' k j]
  rfl

/-- A sum over 2048 places is the sum over the first 512, the second, the third and the fourth, added up in turn. -/
theorem sum_quarters {M : Type} [AddCommMonoid M] (f : Fin 2048 → M) :
    ∑ K, f K = (((∑ k : Fin 512, f ⟨512 * 0 + k.val, by omega⟩) + ∑ k : Fin 512, f ⟨512 * 1 + k.val, by omega⟩)
      + ∑ k : Fin 512, f ⟨512 * 2 + k.val, by omega⟩) + ∑ k : Fin 512, f ⟨512 * 3 + k.val, by omega⟩ := by
  have h1 := Fin.sum_univ_add (a := 1536) (b := 512) f
  have h2 := Fin.sum_univ_add (a := 1024) (b := 512) fun i : Fin 1536 => f (Fin.castAdd 512 i)
  have h3 := Fin.sum_univ_add (a := 512) (b := 512) fun i : Fin 1024 => f (Fin.castAdd 512 (Fin.castAdd 512 i))
  refine h1.trans (congrArg₂ (· + ·) (h2.trans (congrArg₂ (· + ·) (h3.trans (congrArg₂ (· + ·) ?_ ?_)) ?_)) ?_) <;>
    exact Finset.sum_congr rfl fun k _ => congrArg f (Fin.ext (by simp <;> omega))

/-- Entry `(r, j)` of the result on device `c` is the sum of the terms of all columns. -/
theorem result_apply (c : Dev nD) (r : Fin 64) (j : Fin 2048) :
    acc3 (F := Ideal) n ρ c (ix2 r j) = ∑ K : Fin 2048, term ρ n c r j K := by
  rw [sum_quarters]
  have e0 : acc0 (F := Ideal) n ρ c (ix2 r j) = _ := group_apply ρ n c 0 0 0 rfl rfl inb_S32x32x128_S8x32x128_0_0_0 inb_S2048x2048_S512x2048_0_0 r j
  have e1 := group_apply ρ n c 1 8 512 rfl rfl inb_S32x32x128_S8x32x128_8_0_0 inb_S2048x2048_S512x2048_512_0 r j
  have e2 := group_apply ρ n c 2 16 1024 rfl rfl inb_S32x32x128_S8x32x128_16_0_0 inb_S2048x2048_S512x2048_1024_0 r j
  have e3 := group_apply ρ n c 3 24 1536 rfl rfl inb_S32x32x128_S8x32x128_24_0_0 inb_S2048x2048_S512x2048_1536_0 r j
  have a1 : acc1 (F := Ideal) n ρ c (ix2 r j) = acc0 (F := Ideal) n ρ c (ix2 r j) + _ :=
    congrArg₂ (· + ·) (congrFun (shapeCast_self _ _) _) e1
  have a2 : acc2 (F := Ideal) n ρ c (ix2 r j) = acc1 (F := Ideal) n ρ c (ix2 r j) + _ :=
    congrArg₂ (· + ·) (congrFun (shapeCast_self _ _) _) e2
  have a3 : acc3 (F := Ideal) n ρ c (ix2 r j) = acc2 (F := Ideal) n ρ c (ix2 r j) + _ :=
    congrArg₂ (· + ·) (congrFun (shapeCast_self _ _) _) e3
  rw [a3, a2, a1, e0]
  rfl

end Cert.Gather

end
-- ==== Proof.Algebraic.lean ====
/-
# The kernel computes the product

Device `c`'s result is block `c`, by rows, of the product of the whole arrays, when every device holds its block of
columns of `x` and the whole of the other matrix.
-/
module

public import proofs.«01_k».proof.Defs
public import proofs.«01_k».proof.Proof.Frames
public import proofs.«01_k».proof.Proof.Product
public import Idealize.ShloMosaic.Lib.StackMember

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open scoped BigOperators

variable (n : (ℓ : Loc nD τ sig) → Buf (Elt Ideal) ℓ)

/-- The whole product, on the reference's side. -/
def whole (x w : FVec Ideal S2048x2048 .f32) : FVec Ideal S2048x2048 .f32 :=
  Host.dotGeneral Cert.ReferenceIdeal.dot_S2048x2048_S2048x2048_S2048x2048_1_0_0_1_n_n none x w

/-- An entry of the whole product is the sum of the products over the 2048 columns. -/
theorem whole_apply (x w : FVec Ideal S2048x2048 .f32) (i j : Fin 2048) :
    whole x w (ix2 i j) = ∑ K : Fin 2048, x (ix2 i K) * w (ix2 K j) :=
  StackMember.dotGeneral_plain_apply none x w i j

/-- Where every device holds its block of the columns of `x`, the entry that device `c` gathers is that of `x`. -/
theorem entry_eq (x : FVec Ideal S2048x2048 .f32)
    (hx : ∀ c : Dev nD, n ((c : Thread nD τ).loc main_arg0) = Layout.block ⟨2, ![2048, 64]⟩ ⟨2, ![2048, 2048]⟩ 1 32 c x)
    (c : Dev nD) (r : Fin 64) (K : Fin 2048) :
    entry (F := Ideal) n ρ c r K = x (ix2 (⟨64 * c.val + r.val, by have : c.val < 32 := c.isLt; omega⟩ : Fin 2048) K) := by
  unfold entry
  rw [xstg_eq, hx]
  refine congrArg x (funext fun a => Fin.ext ?_)
  match a with
  | ⟨0, _⟩ => rfl
  | ⟨1, _⟩ => show K.val / 64 * 64 + K.val % 64 = K.val; omega

/-- Device `c`'s result is block `c` of the rows of the whole product. -/
theorem result_eq (x w : FVec Ideal S2048x2048 .f32)
    (hx : ∀ c : Dev nD, n ((c : Thread nD τ).loc main_arg0) = Layout.block ⟨2, ![2048, 64]⟩ ⟨2, ![2048, 2048]⟩ 1 32 c x)
    (hw : ∀ c : Dev nD, n ((c : Thread nD τ).loc main_arg1) = w) (c : Dev nD) :
    acc3 (F := Ideal) n ρ c = Layout.block ⟨2, ![64, 2048]⟩ ⟨2, ![2048, 2048]⟩ 0 32 c (whole x w) := by
  funext i
  obtain ⟨r, j, rfl⟩ : ∃ (r : Fin 64) (j : Fin 2048), i = ix2 r j :=
    ⟨i 0, i 1, funext fun a => match a with | ⟨0, _⟩ => rfl | ⟨1, _⟩ => rfl⟩
  have hc : c.val < 32 := c.isLt
  have hb : Layout.block ⟨2, ![64, 2048]⟩ ⟨2, ![2048, 2048]⟩ 0 32 c (whole x w) (by decide) (ix2 r j)
      = whole x w (ix2 (⟨64 * c.val + r.val, by omega⟩ : Fin 2048) j) := by
    refine congrArg (whole x w) (funext fun a => Fin.ext ?_)
    match a with
    | ⟨0, _⟩ => show c.val * 64 + r.val = 64 * c.val + r.val; omega
    | ⟨1, _⟩ => rfl
  refine ((result_apply ρ n c r j).trans (Finset.sum_congr rfl fun K _ => ?_)).trans ((whole_apply x w _ j).symm.trans hb.symm)
  unfold term
  rw [entry_eq ρ n x hx c, wstg_eq, hw]

/-- The kernel and the reference compute the same function over the extended reals. -/
theorem algebraic : Cert.algebraic_KernelIdeal_ReferenceIdeal := fun m ρ m' ρ' _ h =>
  ⟨whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run defs _ _).mono
      (fun _ r c => ⟨(r.1 c (2 : Fin 3)).trans ((finalA_o m ρ c).trans (result_eq ρ m _ _ (fun c => (h c).1) (fun c => (h c).2) c)),
        (r.1 c (0 : Fin 3)).trans (finalA_x m ρ c), (r.1 c (1 : Fin 3)).trans (finalA_w m ρ c)⟩)
      (run_main (F := Ideal) m ρ),
    (θ_run Cert.ReferenceIdeal.defs _ _).mono (fun _ r => r 0) (Cert.ReferenceIdeal.Value.run (F := Ideal) m' ρ')⟩

end Cert.Gather

end
-- ==== Proof.lean ====
/-
# The proof of `Cert.Claim`

The claims, in order: the kernel's frame at machine floats, its frame at ideal floats, the reference's frame, that the
ideal program is the kernel with nothing rewritten, and that kernel and reference compute the same function over the
extended reals.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

/-- Every claim of the certificate. -/
theorem claim : Cert.Claim := ⟨Cert.Kernel.Gen.facts, Cert.KernelIdeal.Gen.facts, Cert.ReferenceIdeal.Gen.facts,
  Cert.Gather.frame_kernel, Cert.Gather.frame_ideal, Cert.Gather.frame_reference, trivial, Cert.Gather.algebraic⟩

end Cert.Proof

end
